-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores_inputs [hPre_finite_scores_inputs : Cert.Pre_finite_scores_inputs.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores_inputs.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_scores_inputs [hPre_finite_scores_inputs : Cert.Pre_finite_scores_inputs.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_scores_inputs.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_finite_scores_inputs [hCrossIdeal : Cert.CrossIdeal.Facts] [hPre_finite_scores_inputs : Cert.Pre_finite_scores_inputs.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores_inputs m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_finite_scores_inputs [hCrossRefIdeal : Cert.CrossRefIdeal.Facts] [hPre_finite_scores_inputs : Cert.Pre_finite_scores_inputs.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_scores_inputs m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v17_0)) (v1 : (c : Dev Cert.MergeIdeal.nD) → Buf (Elt Ideal) ((c.tc : Thread Cert.MergeIdeal.nD Cert.MergeIdeal.τ).loc Cert.MergeIdeal.main_v17_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17_0) = v0 c
          ∧ r.2.mem ((c.tc : Thread Cert.MergeIdeal.nD Cert.MergeIdeal.τ).loc Cert.MergeIdeal.main_v17_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v61) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Cross_CrossIdeal : Prop :=
  True

def algebraic_CrossIdeal_CrossRefIdeal_pre_finite_scores_inputs [hCrossIdeal : Cert.CrossIdeal.Facts] [hCrossRefIdeal : Cert.CrossRefIdeal.Facts] [hPre_finite_scores_inputs : Cert.Pre_finite_scores_inputs.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_scores_inputs m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v6)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v53) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hCross : Cert.Cross.Facts) (hCrossIdeal : Cert.CrossIdeal.Facts) (hCrossRefIdeal : Cert.CrossRefIdeal.Facts) (hPre_finite_scores_inputs : Cert.Pre_finite_scores_inputs.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cross (hCross := hCross)
    ∧ quiescent_CrossIdeal (hCrossIdeal := hCrossIdeal)
    ∧ quiescent_CrossIdeal_pre_finite_scores_inputs (hCrossIdeal := hCrossIdeal) (hPre_finite_scores_inputs := hPre_finite_scores_inputs)
    ∧ quiescent_CrossRefIdeal (hCrossRefIdeal := hCrossRefIdeal)
    ∧ quiescent_CrossRefIdeal_pre_finite_scores_inputs (hCrossRefIdeal := hCrossRefIdeal) (hPre_finite_scores_inputs := hPre_finite_scores_inputs)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Cross_CrossIdeal
    ∧ algebraic_CrossIdeal_CrossRefIdeal_pre_finite_scores_inputs (hCrossIdeal := hCrossIdeal) (hCrossRefIdeal := hCrossRefIdeal) (hPre_finite_scores_inputs := hPre_finite_scores_inputs)
-- ==== Pre_finite_scores_inputs.lean ====
abbrev S32x2048x7168 : Shape := ⟨3, ![32, 2048, 7168]⟩
abbrev S32x256x1024 : Shape := ⟨3, ![32, 256, 1024]⟩
abbrev S1x1024 : Shape := ⟨2, ![1, 1024]⟩
abbrev S1x1024x1024 : Shape := ⟨3, ![1, 1024, 1024]⟩
abbrev S1x128 : Shape := ⟨2, ![1, 128]⟩
abbrev S32x2048x512 : Shape := ⟨3, ![32, 2048, 512]⟩
abbrev S_ : Shape := ⟨0, ![]⟩
abbrev S1x1024x512 : Shape := ⟨3, ![1, 1024, 512]⟩

class Facts : Prop where
  slices_S32x2048x7168_S32x2048x512_0_0_6656 : S32x2048x7168.Slices ![0, 0, 6656] S32x2048x512
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x256x1024 : S_.BroadcastsInDim S32x256x1024 (![] : Fin 0 → Fin S32x256x1024.rank)
  reducesTo_S32x256x1024_S_d0_1_2 : S32x256x1024.ReducesTo [0, 1, 2] S_
  bcast_S_S1x1024 : S_.BroadcastsInDim S1x1024 (![] : Fin 0 → Fin S1x1024.rank)
  reducesTo_S1x1024_S_d0_1 : S1x1024.ReducesTo [0, 1] S_
  slices_S1x1024x1024_S1x1024x512_0_0_0 : S1x1024x1024.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v15 : IVec S_ 1) (main_v17 : FVec F S1x1024x512 .f32) : IVec S_ 1 :=
  let main_cst_4 : FVec F S_ .f32 := constant S_ .f32 0x7F800000#32
  let main_v18 : FVec F S1x1024x512 .f32 := broadcastInDim S1x1024x512 ![] bcast_S_S1x1024x512 main_cst_4
  let main_v19 : IVec S1x1024x512 1 := cmpf .olt main_v17 main_v18
  let main_c_5 : IVec S_ 1 := constantI S_ 1 1#1
  let main_v20 : IVec S_ 1 := (fun x v => Host.reduce IntOp.andi x v reducesTo_S1x1024x512_S_d0_1_2 h_S_) main_v19 main_c_5
  let main_v21 : IVec S_ 1 := andi main_v15 main_v20
  let main_v22 : FVec F S1x128 .f32 := Host.absf main_arg4
  let main_cst_6 : FVec F S_ .f32 := constant S_ .f32 0x7F800000#32
  let main_v23 : FVec F S1x128 .f32 := broadcastInDim S1x128 ![] bcast_S_S1x128 main_cst_6
  let main_v24 : IVec S1x128 1 := cmpf .olt main_v22 main_v23
  let main_c_7 : IVec S_ 1 := constantI S_ 1 1#1
  let main_v25 : IVec S_ 1 := (fun x v => Host.reduce IntOp.andi x v reducesTo_S1x128_S_d0_1 h_S_) main_v24 main_c_7
  let main_v26 : IVec S_ 1 := andi main_v21 main_v25
  main_v26

def fn {F : FTy → Type} [FloatOps F] (main_arg0 : FVec F S32x2048x7168 .bf16) (main_arg1 : FVec F S32x256x1024 .f32) (main_arg2 : FVec F S1x1024 .f32) (main_arg3 : FVec F S1x1024x1024 .f32) (main_arg4 : FVec F S1x128 .f32) : IVec S_ 1 :=
  let main_v0 : FVec F S32x2048x512 .bf16 := (extractStridedSlice S32x2048x512 ![0, 0, 6656] · slices_S32x2048x7168_S32x2048x512_0_0_6656) main_arg0
  let main_v1 : FVec F S32x2048x512 .f32 := (extf .f32 · bitsLt_bf16_f32) main_v0
  let main_v2 : FVec F S32x2048x512 .f32 := Host.absf main_v1
  let main_cst : FVec F S_ .f32 := constant S_ .f32 0x7F800000#32
  let main_v3 : FVec F S32x2048x512 .f32 := broadcastInDim S32x2048x512 ![] bcast_S_S32x2048x512 main_cst
  let main_v4 : IVec S32x2048x512 1 := cmpf .olt main_v2 main_v3
  let main_c : IVec S_ 1 := constantI S_ 1 1#1
  let main_v5 : IVec S_ 1 := (fun x v => Host.reduce IntOp.andi x v reducesTo_S32x2048x512_S_d0_1_2 h_S_) main_v4 main_c
  let main_v6 : FVec F S32x256x1024 .f32 := Host.absf main_arg1
  let main_cst_0 : FVec F S_ .f32 := constant S_ .f32 0x7F800000#32
  let main_v7 : FVec F S32x256x1024 .f32 := broadcastInDim S32x256x1024 ![] bcast_S_S32x256x1024 main_cst_0
  let main_v8 : IVec S32x256x1024 1 := cmpf .olt main_v6 main_v7
  let main_c_1 : IVec S_ 1 := constantI S_ 1 1#1
  let main_v9 : IVec S_ 1 := (fun x v => Host.reduce IntOp.andi x v reducesTo_S32x256x1024_S_d0_1_2 h_S_) main_v8 main_c_1
  let main_v10 : IVec S_ 1 := andi main_v5 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S1x1024x512 .f32 := (extractStridedSlice S1x1024x512 ![0, 0, 0] · slices_S1x1024x1024_S1x1024x512_0_0_0) main_arg3
  let main_v17 : FVec F S1x1024x512 .f32 := Host.absf main_v16
  fn_part1 (F := F) main_arg4 main_v15 main_v17
-- ==== Ffn.lean ====
abbrev S32x2048x1024 : Shape := ⟨3, ![32, 2048, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2048x1024 : Shape := ⟨3, ![1, 2048, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S2048x1024 : Shape := ⟨2, ![2048, 1024]⟩
abbrev S2048x256 : Shape := ⟨2, ![2048, 256]⟩

abbrev nBuf : Space → Nat
  | .hbm => 14
  | .vmem => 17
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024x5632, .bf16⟩
  | .hbm, ⟨11, _⟩ => ⟨S1x2816, .f32⟩
  | .hbm, ⟨12, _⟩ => ⟨S2816x1024, .bf16⟩
  | .hbm, ⟨13, _⟩ => ⟨S32x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S256x1024, .bf16⟩
  | .local _ .vmem, ⟨13, _⟩ => ⟨S256x1024, .bf16⟩
  | .local _ .vmem, ⟨14, _⟩ => ⟨S1x2048x1024, .f32⟩
  | .local _ .vmem, ⟨15, _⟩ => ⟨S1x2048x1024, .f32⟩
  | .local _ .vmem, ⟨16, _⟩ => ⟨S2048x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_26 : BitVec 32 := 0#32
  let v59 : BitVec 1 := Scalar.cmpi .ne v58 c0_i32_26
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S32x2048x1024 : Shape := ⟨3, ![32, 2048, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024x5632 : Shape := ⟨2, ![1024, 5632]⟩
abbrev S32x2048x5632 : Shape := ⟨3, ![32, 2048, 5632]⟩
abbrev S32x2048x2816 : Shape := ⟨3, ![32, 2048, 2816]⟩
abbrev S_ : Shape := ⟨0, ![]⟩
abbrev S32x2050x2816 : Shape := ⟨3, ![32, 2050, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S32x2048x1024, .f32⟩
  | .hbm, ⟨7, _⟩ => ⟨S1024x5632, .f32⟩
  | .hbm, ⟨8, _⟩ => ⟨S32x2048x5632, .f32⟩
  | .hbm, ⟨9, _⟩ => ⟨S32x2048x2816, .f32⟩
  | .hbm, ⟨10, _⟩ => ⟨S32x2048x2816, .f32⟩
  | .hbm, ⟨11, _⟩ => ⟨S_, .i32⟩
  | .hbm, ⟨12, _⟩ => ⟨S_, .f32⟩
  | .hbm, ⟨13, _⟩ => ⟨S32x2050x2816, .f32⟩
  | .hbm, ⟨14, _⟩ => ⟨S2816, .f32⟩
  | .hbm, ⟨15, _⟩ => ⟨S32x2048x2816, .f32⟩
  | .hbm, ⟨16, _⟩ => ⟨S3x2816, .f32⟩
  | .hbm, ⟨17, _⟩ => ⟨S1x2816, .f32⟩
  | .hbm, ⟨18, _⟩ => ⟨S2816, .f32⟩
  | .hbm, ⟨19, _⟩ => ⟨S1x1x2816, .f32⟩
  | .hbm, ⟨20, _⟩ => ⟨S32x2048x2816, .f32⟩
  | .hbm, ⟨21, _⟩ => ⟨S32x2048x2816, .f32⟩
  | .hbm, ⟨22, _⟩ => ⟨S1x1x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S3x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S3x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S_, .f32⟩
  | .hbm, ⟨42, _⟩ => ⟨S32x2048x2816, .f32⟩
  | .hbm, ⟨43, _⟩ => ⟨S32x2048x2816, .f32⟩
  | .hbm, ⟨44, _⟩ => ⟨S_, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S_, .f32⟩
  | .hbm, ⟨49, _⟩ => ⟨S32x2048x2816, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S2816x1024, .f32⟩
  | .hbm, ⟨54, _⟩ => ⟨S32x2048x1024, .f32⟩
  | .hbm, ⟨55, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Merge.lean ====
abbrev S32x2048x1024 : Shape := ⟨3, ![32, 2048, 1024]⟩
abbrev S1x1024 : Shape := ⟨2, ![1, 1024]⟩
abbrev S1024x3072 : Shape := ⟨2, ![1024, 3072]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S65536x1024 : Shape := ⟨2, ![65536, 1024]⟩
abbrev S65536x512 : Shape := ⟨2, ![65536, 512]⟩
abbrev S512x512 : Shape := ⟨2, ![512, 512]⟩
abbrev S512 : Shape := ⟨1, ![512]⟩
abbrev S512x1 : Shape := ⟨2, ![512, 1]⟩

abbrev nBuf : Space → Nat
  | .hbm => 30
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1024x3072, .f32⟩
  | .hbm, ⟨3, _⟩ => ⟨S32x2048x512, .bf16⟩
  | .hbm, ⟨4, _⟩ => ⟨S32x2048x512, .bf16⟩
  | .hbm, ⟨5, _⟩ => ⟨S32x2048x512, .bf16⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1024, .f32⟩
  | .hbm, ⟨17, _⟩ => ⟨S65536x1024, .f32⟩
  | .hbm, ⟨18, _⟩ => ⟨S1x1024, .f32⟩
  | .hbm, ⟨19, _⟩ => ⟨S1024x3072, .bf16⟩
  | .hbm, ⟨20, _⟩ => ⟨S65536x512, .bf16⟩
  | .hbm, ⟨21, _⟩ => ⟨S65536x512, .bf16⟩
  | .hbm, ⟨22, _⟩ => ⟨S65536x512, .bf16⟩
  | .hbm, ⟨23, _⟩ => ⟨S512x1024, .bf16⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S65536x1024, .f32⟩
  | .hbm, ⟨29, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S32x2048x1024 : Shape := ⟨3, ![32, 2048, 1024]⟩
abbrev S1x1024 : Shape := ⟨2, ![1, 1024]⟩
abbrev S1024x3072 : Shape := ⟨2, ![1024, 3072]⟩
abbrev S32x2048x512 : Shape := ⟨3, ![32, 2048, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x3x1024 : Shape := ⟨4, ![32, 2048, 3, 1024]⟩
abbrev S32x2048x1x1024 : Shape := ⟨4, ![32, 2048, 1, 1024]⟩
abbrev S512x1024 : Shape := ⟨2, ![512, 1024]⟩
abbrev S1024x1024 : Shape := ⟨2, ![1024, 1024]⟩
abbrev S65536x1024 : Shape := ⟨2, ![65536, 1024]⟩

abbrev nBuf : Space → Nat
  | .hbm => 81
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1024x3072, .f32⟩
  | .hbm, ⟨3, _⟩ => ⟨S32x2048x512, .bf16⟩
  | .hbm, ⟨4, _⟩ => ⟨S32x2048x512, .bf16⟩
  | .hbm, ⟨5, _⟩ => ⟨S32x2048x512, .bf16⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x3072, .f32⟩
  | .hbm, ⟨29, _⟩ => ⟨S32x2048x3072, .f32⟩
  | .hbm, ⟨30, _⟩ => ⟨S32x2048x3072, .f32⟩
  | .hbm, ⟨31, _⟩ => ⟨S_, .f32⟩
  | .hbm, ⟨32, _⟩ => ⟨S32x2048x3072, .f32⟩
  | .hbm, ⟨33, _⟩ => ⟨S32x2048x3072, .f32⟩
  | .hbm, ⟨34, _⟩ => ⟨S_, .f32⟩
  | .hbm, ⟨35, _⟩ => ⟨S32x2048x3072, .f32⟩
  | .hbm, ⟨36, _⟩ => ⟨S32x2048x3072, .f32⟩
  | .hbm, ⟨37, _⟩ => ⟨S32x2048x3x1024, .f32⟩
  | .hbm, ⟨38, _⟩ => ⟨S32x2048x512, .f32⟩
  | .hbm, ⟨39, _⟩ => ⟨S32x2048x512, .f32⟩
  | .hbm, ⟨40, _⟩ => ⟨S32x2048x512, .f32⟩
  | .hbm, ⟨41, _⟩ => ⟨S32x2048x1x1024, .f32⟩
  | .hbm, ⟨42, _⟩ => ⟨S32x2048x1024, .f32⟩
  | .hbm, ⟨43, _⟩ => ⟨S512x1024, .f32⟩
  | .hbm, ⟨44, _⟩ => ⟨S32x2048x1024, .f32⟩
  | .hbm, ⟨45, _⟩ => ⟨S32x2048x1024, .f32⟩
  | .hbm, ⟨46, _⟩ => ⟨S32x2048x1x1024, .f32⟩
  | .hbm, ⟨47, _⟩ => ⟨S32x2048x1024, .f32⟩
  | .hbm, ⟨48, _⟩ => ⟨S512x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x1x1024, .f32⟩
  | .hbm, ⟨53, _⟩ => ⟨S32x2048x1024, .f32⟩
  | .hbm, ⟨54, _⟩ => ⟨S512x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S1024x1024, .f32⟩
  | .hbm, ⟨59, _⟩ => ⟨S32x2048x1024, .f32⟩
  | .hbm, ⟨60, _⟩ => ⟨S32x2048x1024, .f32⟩
  | .hbm, ⟨61, _⟩ => ⟨S65536x1024, .f32⟩
  | .hbm, ⟨62, _⟩ => ⟨S1024, .f32⟩
  | .hbm, ⟨63, _⟩ => ⟨S32x2048x1024, .f32⟩
  | .hbm, ⟨64, _⟩ => ⟨S_, .f32⟩
  | .hbm, ⟨65, _⟩ => ⟨S32x2048, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S_, .f32⟩
  | .hbm, ⟨71, _⟩ => ⟨S32x2048x1, .f32⟩
  | .hbm, ⟨72, _⟩ => ⟨S32x2048x1, .f32⟩
  | .hbm, ⟨73, _⟩ => ⟨S32x2048x1, .f32⟩
  | .hbm, ⟨74, _⟩ => ⟨S32x2048x1024, .f32⟩
  | .hbm, ⟨75, _⟩ => ⟨S32x2048x1024, .f32⟩
  | .hbm, ⟨76, _⟩ => ⟨S1x1x1024, .f32⟩
  | .hbm, ⟨77, _⟩ => ⟨S32x2048x1024, .f32⟩
  | .hbm, ⟨78, _⟩ => ⟨S32x2048x1024, .f32⟩
  | .hbm, ⟨79, _⟩ => ⟨S65536x1024, .f32⟩
  | .hbm, ⟨80, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Cross.lean ====
abbrev S32x2048x7168 : Shape := ⟨3, ![32, 2048, 7168]⟩
abbrev S32x256x1024 : Shape := ⟨3, ![32, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S128 : Shape := ⟨1, ![128]⟩
abbrev S32x2048x512 : Shape := ⟨3, ![32, 2048, 512]⟩
abbrev S1x256x1024 : Shape := ⟨3, ![1, 256, 1024]⟩
abbrev S1x2048x512 : Shape := ⟨3, ![1, 2048, 512]⟩
abbrev S4x256x128 : Shape := ⟨3, ![4, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 12
  | .vmem => 11
  | .smem => 0
  | _ => 0

abbrev bufTy : (tb : Table) → Fin (tcTables nBuf tb) → BufTy
  | .hbm, ⟨0, _⟩ => ⟨S32x2048x7168, .bf16⟩
  | .hbm, ⟨1, _⟩ => ⟨S32x256x1024, .f32⟩
  | .hbm, ⟨2, _⟩ => ⟨S1x1024, .f32⟩
  | .hbm, ⟨3, _⟩ => ⟨S1x1024x1024, .f32⟩
  | .hbm, ⟨4, _⟩ => ⟨S1x128, .f32⟩
  | .hbm, ⟨5, _⟩ => ⟨S1024, .f32⟩
  | .hbm, ⟨6, _⟩ => ⟨S1024x1024, .f32⟩
  | .hbm, ⟨7, _⟩ => ⟨S128, .f32⟩
  | .hbm, ⟨8, _⟩ => ⟨S1x1024, .f32⟩
  | .hbm, ⟨9, _⟩ => ⟨S1024x1024, .bf16⟩
  | .hbm, ⟨10, _⟩ => ⟨S1x128, .f32⟩
  | .hbm, ⟨11, _⟩ => ⟨S32x2048x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S4x256x128, .bf16⟩
  | .local _ .vmem, ⟨10, _⟩ => ⟨S4x256x128, .bf16⟩
  | _, _ => ⟨S32x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v110 : BitVec 32 := Scalar.addi c0_i32 c8_i32
  let c1_i32 : BitVec 32 := 1#32
  ⟨c0_i32, v110, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  v111
def k0_off1 (k0_t1 : Fin k0_t1_loop.trips) : Fin 3 → Nat :=
  let c0_45 : Index := 0#32
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  let v112 : BitVec 32 := v111
  let v113 : Index := Scalar.indexCast v112
  let c0_46 : Index := 0#32
  ![0, v113.toNat, 0]
def k0_off2 (k0_t1 : Fin k0_t1_loop.trips) : Fin 3 → Nat :=
  let c0_59 : Index := 0#32
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  let v112 : BitVec 32 := v111
  let v137 : Index := Scalar.indexCast v112
  let c128 : Index := 128#32
  ![0, v137.toNat, 128]
def k0_off3 (k0_t1 : Fin k0_t1_loop.trips) : Fin 3 → Nat :=
  let c0_72 : Index := 0#32
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  let v112 : BitVec 32 := v111
  let v161 : Index := Scalar.indexCast v112
  let c256 : Index := 256#32
  ![0, v161.toNat, 256]
def k0_off4 (k0_t1 : Fin k0_t1_loop.trips) : Fin 3 → Nat :=
  let c0_85 : Index := 0#32
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  let v112 : BitVec 32 := v111
  let v185 : Index := Scalar.indexCast v112
  let c384 : Index := 384#32
  ![0, v185.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c13_i32 : BitVec 32 := 13#32
  let c0_i32_0 : BitVec 32 := 0#32
  ![arg0.toNat, c0_i32.toNat, c13_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CrossRefIdeal.lean ====
abbrev S32x2048x7168 : Shape := ⟨3, ![32, 2048, 7168]⟩
abbrev S32x256x1024 : Shape := ⟨3, ![32, 256, 1024]⟩
abbrev S1x1024 : Shape := ⟨2, ![1, 1024]⟩
abbrev S1x1024x1024 : Shape := ⟨3, ![1, 1024, 1024]⟩
abbrev S1x128 : Shape := ⟨2, ![1, 128]⟩
abbrev S32x2048x512 : Shape := ⟨3, ![32, 2048, 512]⟩
abbrev S32x2048x4x128 : Shape := ⟨4, ![32, 2048, 4, 128]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x1024 : Shape := ⟨2, ![1024, 1024]⟩
abbrev S32x256x2x4x128 : Shape := ⟨5, ![32, 256, 2, 4, 128]⟩
abbrev S32x256x1x4x128 : Shape := ⟨5, ![32, 256, 1, 4, 128]⟩
abbrev S32x256x4x128 : Shape := ⟨4, ![32, 256, 4, 128]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x7168, .bf16⟩
  | .hbm, ⟨1, _⟩ => ⟨S32x256x1024, .f32⟩
  | .hbm, ⟨2, _⟩ => ⟨S1x1024, .f32⟩
  | .hbm, ⟨3, _⟩ => ⟨S1x1024x1024, .f32⟩
  | .hbm, ⟨4, _⟩ => ⟨S1x128, .f32⟩
  | .hbm, ⟨5, _⟩ => ⟨S32x2048x512, .bf16⟩
  | .hbm, ⟨6, _⟩ => ⟨S32x2048x512, .f32⟩
  | .hbm, ⟨7, _⟩ => ⟨S32x2048x4x128, .f32⟩
  | .hbm, ⟨8, _⟩ => ⟨S1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S1024x1024, .f32⟩
  | .hbm, ⟨26, _⟩ => ⟨S32x256x1024, .f32⟩
  | .hbm, ⟨27, _⟩ => ⟨S32x256x2x4x128, .f32⟩
  | .hbm, ⟨28, _⟩ => ⟨S32x256x1x4x128, .f32⟩
  | .hbm, ⟨29, _⟩ => ⟨S32x256x4x128, .f32⟩
  | .hbm, ⟨30, _⟩ => ⟨S128, .f32⟩
  | .hbm, ⟨31, _⟩ => ⟨S32x256x4x128, .f32⟩
  | .hbm, ⟨32, _⟩ => ⟨S_, .f32⟩
  | .hbm, ⟨33, _⟩ => ⟨S32x256x4, .f32⟩
  | .hbm, ⟨34, _⟩ => ⟨S32x256x4x1, .f32⟩
  | .hbm, ⟨35, _⟩ => ⟨S_, .f32⟩
  | .hbm, ⟨36, _⟩ => ⟨S32x256x4x1, .f32⟩
  | .hbm, ⟨37, _⟩ => ⟨S32x256x4x1, .f32⟩
  | .hbm, ⟨38, _⟩ => ⟨S_, .f32⟩
  | .hbm, ⟨39, _⟩ => ⟨S32x256x4x1, .f32⟩
  | .hbm, ⟨40, _⟩ => ⟨S32x256x4x1, .f32⟩
  | .hbm, ⟨41, _⟩ => ⟨S32x256x4x1, .f32⟩
  | .hbm, ⟨42, _⟩ => ⟨S32x256x4x128, .f32⟩
  | .hbm, ⟨43, _⟩ => ⟨S32x256x4x128, .f32⟩
  | .hbm, ⟨44, _⟩ => ⟨S1x1x1x128, .f32⟩
  | .hbm, ⟨45, _⟩ => ⟨S32x256x4x128, .f32⟩
  | .hbm, ⟨46, _⟩ => ⟨S32x256x4x128, .f32⟩
  | .hbm, ⟨47, _⟩ => ⟨S32x256x1x4x128, .f32⟩
  | .hbm, ⟨48, _⟩ => ⟨S32x256x4x128, .f32⟩
  | .hbm, ⟨49, _⟩ => ⟨S32x4x2048x256, .f32⟩
  | .hbm, ⟨50, _⟩ => ⟨S_, .f32⟩
  | .hbm, ⟨51, _⟩ => ⟨S32x4x2048, .f32⟩
  | .hbm, ⟨52, _⟩ => ⟨S_, .f32⟩
  | .hbm, ⟨53, _⟩ => ⟨S32x4x2048, .f32⟩
  | .hbm, ⟨54, _⟩ => ⟨S32x4x2048, .f32⟩
  | .hbm, ⟨55, _⟩ => ⟨S32x4x2048x1, .f32⟩
  | .hbm, ⟨56, _⟩ => ⟨S32x4x2048x256, .f32⟩
  | .hbm, ⟨57, _⟩ => ⟨S32x4x2048x256, .f32⟩
  | .hbm, ⟨58, _⟩ => ⟨S32x4x2048x256, .f32⟩
  | .hbm, ⟨59, _⟩ => ⟨S_, .f32⟩
  | .hbm, ⟨60, _⟩ => ⟨S32x4x2048, .f32⟩
  | .hbm, ⟨61, _⟩ => ⟨S32x4x2048x1, .f32⟩
  | .hbm, ⟨62, _⟩ => ⟨S32x4x2048x256, .f32⟩
  | .hbm, ⟨63, _⟩ => ⟨S32x4x2048x256, .f32⟩
  | .hbm, ⟨64, _⟩ => ⟨S32x4x128x2048, .f32⟩
  | .hbm, ⟨65, _⟩ => ⟨S32x2048x4x128, .f32⟩
  | .hbm, ⟨66, _⟩ => ⟨S32x2048x512, .f32⟩
  | .hbm, ⟨67, _⟩ => ⟨S32x2048x512, .bf16⟩
  | _, _ => ⟨S32x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.FfnSpec.lean ====
module

public import Idealize.ShloMosaic.Lib.Pointwise

/-! The gated feed-forward step, row by row: a channel's short convolution along the sequence, the gated unit over it. -/

@[expose] public section

noncomputable section

open Idealize.ShloMosaic

namespace Cert.FfnSpec

/-- Three-tap convolution at row `r` of one channel's column `u`: the rows before and after count, past the ends nothing does. -/
def conv (b w0 w1 w2 : EReal) (u : Fin 2048 → EReal) (r : Fin 2048) : EReal :=
  b + (if h : 1 ≤ r.val then u ⟨r.val - 1, by omega⟩ else 0) * w0 + u r * w1
    + (if h : r.val + 1 < 2048 then u ⟨r.val + 1, h⟩ else 0) * w2

/-- The unit `gelu c · g`, the gelu in its error-function form. -/
def glu (c g : EReal) : EReal :=
  Ideal.ofBits .f32 0x3F000000#32 * c * (1 + Ideal.erf (c * Ideal.ofBits .f32 0x3F3504F3#32)) * g

/-- One channel of the hidden layer at row `r`: `h` the example's rows, `wu` and `wg` the channel's columns of the up and
    gate projections, `w0 w1 w2` and `b` its taps and bias. -/
def lane (h : Fin 2048 → Fin 1024 → EReal) (wu wg : Fin 1024 → EReal) (w0 w1 w2 b : EReal) (r : Fin 2048) : EReal :=
  glu (conv b w0 w1 w2 (fun s => ∑ k, h s k * wu k) r) (∑ k, h r k * wg k)

end Cert.FfnSpec
-- ==== Proof.FfnKernel.lean ====
module

public import proofs.«01_k».proof.Proof.Gen.FfnIdeal.Skeleton
public import proofs.«01_k».proof.Proof.FfnSpec
public import Idealize.ShloMosaic.Lib.Pipeline.ValueKit
public import Idealize.ShloMosaic.Lib.WordCmp

/-! What one grid point of the feed-forward kernel adds to the accumulator, element by element. -/

@[expose] public section

set_option maxRecDepth 16384

noncomputable section

open Idealize.ShloMosaic Idealize.ShloMosaic.TcCoe

namespace Cert.FfnIdeal.Block

open Cert.FfnIdeal Cert.FfnIdeal.Gen Cert.FfnSpec Idealize.ShloMosaic.WordCmp

variable (x0 : FVec Ideal S1x2048x1024 .bf16) (x2 x3 : FVec Ideal S1024x256 .bf16) (x4 : FVec Ideal S3x256 .f32)
  (x5 : FVec Ideal S1x256 .f32) (x6 : FVec Ideal S256x1024 .bf16)

/-- The rotated column with its last row cleared: the row after, nothing past the end. -/
theorem after_apply (r : Fin 2048) (f : Fin 256) : k0_pay7 (F := Ideal) x0 x2 (ix2 r f)
    = if h : r.val + 1 < 2048 then k0_pay5 (F := Ideal) x0 x2 (ix2 ⟨r.val + 1, h⟩ f) else 0 := by
  pointwise [k0_pay7]
  refine (congrArg (fun w => Scalar.select w _ _) (cmpi_eq_ofNat (by omega) (by omega))).trans ?_
  by_cases h : r.val = 2047
  · rw [dif_neg (by omega), decide_eq_true h]
    exact select_one _ _
  · rw [dif_pos (by omega : r.val + 1 < 2048), decide_eq_false h]
    refine (select_zero _ _).trans (congrArg (fun s => k0_pay5 (F := Ideal) x0 x2 (ix2 s f)) (Fin.ext ?_))
    show (r.val + 2048 - 2047) % 2048 = r.val + 1
    omega

/-- The convolution's first two taps: the bias, the row before and the row itself. -/
theorem before_apply (r : Fin 2048) (f : Fin 256) : k0_pay9 (F := Ideal) x0 x2 x4 x5 (ix2 r f)
    = x5 (ix2 0 f) + (if h : 1 ≤ r.val then k0_pay5 (F := Ideal) x0 x2 (ix2 ⟨r.val - 1, by omega⟩ f) else 0) * x4 (ix2 0 f)
      + k0_pay5 (F := Ideal) x0 x2 (ix2 r f) * x4 (ix2 1 f) := by
  pointwise [k0_pay9, k0_pay8]
  refine congrArg (fun w => x5 (ix2 0 f) + w + k0_pay5 (F := Ideal) x0 x2 (ix2 r f) * x4 (ix2 1 f)) ?_
  refine (congrArg (fun w => Scalar.select w _ _) (cmpi_eq_ofNat (by omega) (by omega))).trans ?_
  by_cases h : r.val = 0
  · rw [dif_neg (by omega), decide_eq_true h, zero_mul]
    exact select_one _ _
  · rw [dif_pos (by omega : 1 ≤ r.val), decide_eq_false h]
    refine (select_zero _ _).trans (congrArg (fun s => k0_pay5 (F := Ideal) x0 x2 (ix2 s f) * x4 (ix2 0 f)) (Fin.ext ?_))
    show (r.val + 2048 - 1) % 2048 = r.val - 1
    omega

/-- The up projection at a row and channel. -/
theorem up_apply (r : Fin 2048) (f : Fin 256) : k0_pay5 (F := Ideal) x0 x2 (ix2 r f) = ∑ k, x0 (ix3 0 r k) * x2 (ix2 k f) := by
  pointwise [k0_pay5, k0_pay4]

/-- What a point adds to the accumulator at row `r`, column `j`. -/
def term (r : Fin 2048) (j : Fin 1024) : EReal :=
  ∑ f : Fin 256, lane (fun s k => x0 (ix3 0 s k)) (fun k => x2 (ix2 k f)) (fun k => x3 (ix2 k f)) (x4 (ix2 0 f)) (x4 (ix2 1 f))
    (x4 (ix2 2 f)) (x5 (ix2 0 f)) r * x6 (ix2 f j)

/-- The accumulator after a point is what it held and the point's term. -/
theorem step_apply (acc : FVec Ideal S2048x1024 .f32) (r : Fin 2048) (j : Fin 1024) :
    k0_pay1 (F := Ideal) (k0_pay6 x0 x3) (k0_pay7 x0 x2) (k0_pay9 x0 x2 x4 x5) (k0_pay10 x4) acc x6 (ix2 r j)
      = acc (ix2 r j) + term x0 x2 x3 x4 x5 x6 r j := by
  unfold term lane glu conv
  pointwise [k0_pay1]
  simp only [after_apply, before_apply, up_apply]
  pointwise [k0_pay6, k0_pay4, k0_pay10, k0_pay8]
  rfl

end Cert.FfnIdeal.Block
-- ==== Proof.FfnReference.lean ====
module

public import proofs.«01_k».proof.Proof.Gen.FfnRefIdeal.Read
public import proofs.«01_k».proof.Proof.FfnSpec

/-! What the feed-forward reference computes, element by element. -/

@[expose] public section

set_option maxRecDepth 16384

noncomputable section

open Idealize.ShloMosaic Idealize.ShloMosaic.TcCoe

namespace Cert.FfnRefIdeal.Rows

open Cert.FfnRefIdeal Cert.FfnRefIdeal.Read Cert.FfnSpec

variable (x0 : FVec Ideal S32x2048x1024 .bf16) (x1 : FVec Ideal S32x2048x1024 .f32) (x2 : FVec Ideal S1x1024x5632 .bf16)
  (x3 : FVec Ideal S1x3x2816 .f32) (x4 : FVec Ideal S1x2816 .f32) (x5 : FVec Ideal S1x2816x1024 .bf16)

/-- The padded, shifted and weighted sum is the three-tap convolution of the up projection. -/
theorem conv_apply (b : Fin 32) (r : Fin 2048) (f : Fin 2816) : val_main_v32 (F := Ideal) x0 x2 x3 x4 (ix3 b r f)
    = conv (x4 (ix2 0 f)) (x3 (ix3 0 0 f)) (x3 (ix3 0 1 f)) (x3 (ix3 0 2 f))
        (fun s => ∑ k, x0 (ix3 b s k) * x2 (ix3 0 k ⟨f.val, by omega⟩)) r := by
  unfold conv
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v3, val_main_v2, val_main_v1, val_main_v0, val_main_call0_v0, val_main_c]
  have hz : FloatOps.sitofp (F := Ideal) FTy.f32 0#32 = 0 := by simp [FloatOps.sitofp]
  have e1 : ∀ h : 1 ≤ r.val, 1 ≤ r.val ∧ r.val - 1 < 2048 := fun h => ⟨h, by omega⟩
  have hn : 2 + r.val - 1 = r.val + 1 := by omega
  simp only [hz]
  congr 2
  · congr 2
    by_cases h : 1 ≤ r.val
    · rw [dif_pos (e1 h), dif_pos h]
    · rw [dif_neg (fun h' => h h'.1), dif_neg h]
  · by_cases h : r.val + 1 < 2048
    · rw [dif_pos ⟨by omega, by omega⟩, dif_pos h]
      simp only [hn]
    · rw [dif_neg (by omega), dif_neg h]

/-- The reference's result: the residual and the projected hidden layer. -/
theorem result_apply (b : Fin 32) (r : Fin 2048) (j : Fin 1024) : val_main_v44 (F := Ideal) x0 x1 x2 x3 x4 x5 (ix3 b r j)
    = x1 (ix3 b r j) + ∑ f : Fin 2816, lane (fun s k => x0 (ix3 b s k)) (fun k => x2 (ix3 0 k ⟨f.val, by omega⟩))
        (fun k => x2 (ix3 0 k ⟨2816 + f.val, by omega⟩)) (x3 (ix3 0 0 f)) (x3 (ix3 0 1 f)) (x3 (ix3 0 2 f)) (x4 (ix2 0 f)) r
        * x5 (ix3 0 f j) := by
  unfold lane glu
  pointwise [val_main_v44, val_main_v43, val_main_v42, val_main_v41, val_main_v40, val_main_v39, val_main_v38, val_main_cst_1,
    val_main_v37, val_main_v36, val_main_v35, val_main_cst_0, val_main_v34, val_main_v33, val_main_cst]
  simp only [conv_apply]
  pointwise [val_main_v4, val_main_v2, val_main_v1, val_main_v0]

end Cert.FfnRefIdeal.Rows
-- ==== Proof.FfnValue.lean ====
module

public import proofs.«01_k».proof.Proof.Gen.FfnIdeal.Value
public import proofs.«01_k».proof.Proof.FfnKernel
public import Idealize.ShloMosaic.Lib.Pipeline.ReadBack
public import proofs.«01_k».proof.Proof.FfnReference

/-! The feed-forward kernel's result array is the reference's term of the same arguments. -/

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen Cert.FfnSpec

variable (m : (ℓ : Loc nD τ sig) → Buf (Elt Ideal) ℓ)

/-- Which block each window takes at a grid point: the example is the quotient by 11, the slab of channels the remainder. -/
theorem idx : ∀ t : Fin cfg0.N, win0_0.index t = ![t.val / 11, 0, 0] ∧ win0_1.index t = ![t.val / 11, 0, 0]
    ∧ win0_2.index t = ![0, t.val % 11] ∧ win0_3.index t = ![0, 11 + t.val % 11] ∧ win0_4.index t = ![0, t.val % 11]
    ∧ win0_5.index t = ![0, t.val % 11] ∧ win0_6.index t = ![t.val % 11, 0] ∧ win0_7.index t = ![t.val / 11, 0, 0]
    ∧ t.val < 352 := (by decide +kernel : ∀ t : Fin grid0.N, _)

/-- What point `t` adds to the accumulator at row `r`, column `j`, from its blocks. -/
def added (c : Dev nD) (t : Fin cfg0.N) (y : S2048x1024.Idx) : EReal :=
  term (iblk m c 0 t) (iblk m c 2 t) (iblk m c 3 t) (iblk m c 4 t) (iblk m c 5 t) (iblk m c 6 t) (y 0) (y 1)

/-- The first point of an example leaves its residual rows and its own term. -/
theorem first_point (c : Dev nD) (t : Fin cfg0.N) (h : t.val % 11 = 0) (y : S2048x1024.Idx) :
    ((outsAt0 m c t.val t.isLt).2 y : EReal)
      = (show FVec Ideal S1x2048x1024 .f32 from iblk m c 1 t) (ix3 0 (y 0) (y 1)) + added m c t y := by
  rw [outsAt0_A m c t h (by omega)]
  frame_out
  obtain ⟨r, j, rfl⟩ : ∃ (r : Fin 2048) (j : Fin 1024), y = ix2 r j := ⟨y 0, y 1, eq_ix2 y⟩
  refine (step_apply _ _ _ _ _ _ _ r j).trans ?_
  pointwise [k0_pay3]
  rfl

/-- Every later point adds its term to what the point before left. -/
theorem next_point (c : Dev nD) (t : Fin cfg0.N) (h : ¬t.val % 11 = 0) (y : S2048x1024.Idx) :
    ((outsAt0 m c t.val t.isLt).2 y : EReal)
      = (outsAt0 m c (t.val - 1) (Nat.lt_of_le_of_lt (Nat.sub_le _ _) t.isLt)).2 y + added m c t y := by
  obtain ⟨r, j, rfl⟩ : ∃ (r : Fin 2048) (j : Fin 1024), y = ix2 r j := ⟨y 0, y 1, eq_ix2 y⟩
  by_cases hc : t.val % 11 = 10
  · rw [outsAt0_C m c t h hc]
    frame_out
    rw [read_unread_whole]
    exact step_apply _ _ _ _ _ _ _ r j
  · rw [outsAt0_B m c t h hc]
    frame_out
    rw [read_unread_whole]
    exact step_apply _ _ _ _ _ _ _ r j

/-- The last point of an example writes the accumulator out. -/
theorem last_point (c : Dev nD) (t : Fin cfg0.N) (h : t.val % 11 = 10) (r : Fin 2048) (j : Fin 1024) :
    (outsAt0 m c t.val t.isLt).1 (ix3 0 r j) = (outsAt0 m c t.val t.isLt).2 (ix2 r j) := by
  rw [outsAt0_C m c t (by omega) h]
  frame_out
  pointwise [k0_pay2]

/-- The hidden rows' block is the example's. -/
theorem block_h (c : Dev nD) (t : Fin cfg0.N) (b : Fin 32) (hb : t.val / 11 = b.val) (r : Fin 2048) (k : Fin 1024) :
    (show FVec Ideal S1x2048x1024 .bf16 from iblk m c 0 t) (ix3 0 r k) = m ((c : Thread nD τ).loc main_arg0) (ix3 b r k) := by
  blk_ext! [iblk, V, idx t, hb]

/-- The residual rows' block is the example's. -/
theorem block_x (c : Dev nD) (t : Fin cfg0.N) (b : Fin 32) (hb : t.val / 11 = b.val) (r : Fin 2048) (k : Fin 1024) :
    (show FVec Ideal S1x2048x1024 .f32 from iblk m c 1 t) (ix3 0 r k) = m ((c : Thread nD τ).loc main_arg1) (ix3 b r k) := by
  blk_ext! [iblk, V, idx t, hb]

/-- The up projection's block: the point's 256 channels. -/
theorem block_up (c : Dev nD) (t : Fin cfg0.N) (s : Fin 11) (hs : t.val % 11 = s.val) (k : Fin 1024) (f : Fin 256) :
    (show FVec Ideal S1024x256 .bf16 from iblk m c 2 t) (ix2 k f)
      = m ((c : Thread nD τ).loc main_arg2) (ix3 0 k ⟨s.val * 256 + f.val, by omega⟩) := by
  blk_ext! [iblk, V, idx t, hs]

/-- The gate projection's block: the same channels of the second half of the columns. -/
theorem block_gate (c : Dev nD) (t : Fin cfg0.N) (s : Fin 11) (hs : t.val % 11 = s.val) (k : Fin 1024) (f : Fin 256) :
    (show FVec Ideal S1024x256 .bf16 from iblk m c 3 t) (ix2 k f)
      = m ((c : Thread nD τ).loc main_arg2) (ix3 0 k ⟨2816 + (s.val * 256 + f.val), by omega⟩) := by
  blk_ext! [iblk, V, idx t, hs]

/-- The taps' block: the point's channels. -/
theorem block_taps (c : Dev nD) (t : Fin cfg0.N) (s : Fin 11) (hs : t.val % 11 = s.val) (q : Fin 3) (f : Fin 256) :
    (show FVec Ideal S3x256 .f32 from iblk m c 4 t) (ix2 q f)
      = m ((c : Thread nD τ).loc main_arg3) (ix3 0 q ⟨s.val * 256 + f.val, by omega⟩) := by
  blk_ext! [iblk, V, idx t, hs]

/-- The biases' block: the point's channels. -/
theorem block_bias (c : Dev nD) (t : Fin cfg0.N) (s : Fin 11) (hs : t.val % 11 = s.val) (f : Fin 256) :
    (show FVec Ideal S1x256 .f32 from iblk m c 5 t) (ix2 0 f)
      = m ((c : Thread nD τ).loc main_arg4) (ix2 0 ⟨s.val * 256 + f.val, by omega⟩) := by
  blk_ext! [iblk, V, idx t, hs]

/-- The out-projection's block: the rows of the point's channels. -/
theorem block_out (c : Dev nD) (t : Fin cfg0.N) (s : Fin 11) (hs : t.val % 11 = s.val) (f : Fin 256) (j : Fin 1024) :
    (show FVec Ideal S256x1024 .bf16 from iblk m c 6 t) (ix2 f j)
      = m ((c : Thread nD τ).loc main_arg5) (ix3 0 ⟨s.val * 256 + f.val, by omega⟩ j) := by
  blk_ext! [iblk, V, idx t, hs]

/-- One channel's contribution to example `b`, row `r`, column `j`, from the arguments. -/
def channel (c : Dev nD) (b : Fin 32) (r : Fin 2048) (j : Fin 1024) (f : Fin 2816) : EReal :=
  lane (fun s k => m ((c : Thread nD τ).loc main_arg0) (ix3 b s k)) (fun k => m ((c : Thread nD τ).loc main_arg2) (ix3 0 k ⟨f.val, by omega⟩))
    (fun k => m ((c : Thread nD τ).loc main_arg2) (ix3 0 k ⟨2816 + f.val, by omega⟩)) (m ((c : Thread nD τ).loc main_arg3) (ix3 0 0 f))
    (m ((c : Thread nD τ).loc main_arg3) (ix3 0 1 f)) (m ((c : Thread nD τ).loc main_arg3) (ix3 0 2 f))
    (m ((c : Thread nD τ).loc main_arg4) (ix2 0 f)) r * m ((c : Thread nD τ).loc main_arg5) (ix3 0 f j)

/-- What a point adds is the sum of its 256 channels' contributions. -/
theorem added_eq (c : Dev nD) (t : Fin cfg0.N) (b : Fin 32) (hb : t.val / 11 = b.val) (s : Fin 11) (hs : t.val % 11 = s.val)
    (r : Fin 2048) (j : Fin 1024) :
    added m c t (ix2 r j) = ∑ f : Fin 256, channel m c b r j ⟨s.val * 256 + f.val, by omega⟩ := by
  unfold added term
  refine Finset.sum_congr rfl fun f _ => ?_
  unfold channel
  refine congrArg₂ (· * ·) ?_ (block_out m c t s hs f j)
  congr 1
  · exact funext fun q => funext fun k => block_h m c t b hb q k
  · exact funext fun k => block_up m c t s hs k f
  · exact funext fun k => block_gate m c t s hs k f
  · exact block_taps m c t s hs 0 f
  · exact block_taps m c t s hs 1 f
  · exact block_taps m c t s hs 2 f
  · exact block_bias m c t s hs f

/-- What the last point of example `b` leaves in the accumulator: the residual and every channel's contribution. -/
theorem total (c : Dev nD) (t : Fin cfg0.N) (h : t.val % 11 = 10) (b : Fin 32) (hb : t.val / 11 = b.val) (r : Fin 2048) (j : Fin 1024) :
    ((outsAt0 m c t.val t.isLt).2 (ix2 r j) : EReal)
      = (show FVec Ideal S32x2048x1024 .f32 from m ((c : Thread nD τ).loc main_arg1)) (ix3 b r j) + ∑ f : Fin 2816, channel m c b r j f := by
  have hstart : ∀ u : Fin cfg0.N, u.val % 11 = 0 → ∀ y : S2048x1024.Idx, ((outsAt0 m c u.val u.isLt).2 y : EReal)
      = (fun _ => 0) y + ((if u.val % 11 = 0 then (show FVec Ideal S1x2048x1024 .f32 from iblk m c 1 u) (ix3 0 (y 0) (y 1)) else 0)
        + added m c u y) := fun u hu y => by
    rw [if_pos hu, zero_add]; exact first_point m c u hu y
  have hnext : ∀ u : Fin cfg0.N, ¬u.val % 11 = 0 → ∀ y : S2048x1024.Idx, ((outsAt0 m c u.val u.isLt).2 y : EReal)
      = (outsAt0 m c (u.val - 1) (Nat.lt_of_le_of_lt (Nat.sub_le _ _) u.isLt)).2 y
        + ((if u.val % 11 = 0 then (show FVec Ideal S1x2048x1024 .f32 from iblk m c 1 u) (ix3 0 (y 0) (y 1)) else 0)
        + added m c u y) := fun u hu y => by
    rw [if_neg hu, zero_add]; exact next_point m c u hu y
  refine (Pipeline.eq_sum_fin_of_reset_step_apply_of_flush (fun n h => (outsAt0 m c n h).2) 11 (fun _ => 0) _ hstart hnext t h (ix2 r j)).trans ?_
  rw [zero_add, Finset.sum_add_distrib]
  refine congrArg₂ (· + ·) ?_ ?_
  · rw [Finset.sum_eq_single (0 : Fin 11)]
    · rw [if_pos (by show (11 * (t.val / 11) + 0) % 11 = 0; omega)]
      exact block_x m c _ b (by show (11 * (t.val / 11) + 0) / 11 = b.val; omega) r j
    · intro s _ hs
      have : s.val ≠ 0 := fun h => hs (Fin.ext h)
      rw [if_neg (by show ¬(11 * (t.val / 11) + s.val) % 11 = 0; omega)]
    · exact fun h => absurd (Finset.mem_univ _) h
  · have hs : ∀ s : Fin 11, (11 * (t.val / 11) + s.val) / 11 = b.val ∧ (11 * (t.val / 11) + s.val) % 11 = s.val := fun s => by omega
    refine (Finset.sum_congr rfl fun s _ => added_eq m c ⟨11 * (t.val / 11) + s.val, _⟩ b (hs s).1 s (hs s).2 r j).trans ?_
    exact Fin.sum_mul_add_congr (fun s f hl => rfl)

/-- The result array after the run is the reference's term. -/
theorem final (c : Dev nD) : (dats m 0 c).arrAt 7 (cfgs 0).N
    = Cert.FfnRefIdeal.Read.val_main_v44 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp
  rw [after0_7]
  have h : t.val % 11 = 10 := (flush0_7 t).mp hf
  obtain ⟨r, j, rfl⟩ : ∃ (r : Fin 2048) (j : Fin 1024), y = ix3 0 r j := ⟨y 1, y 2, by
    rw [eq_ix3 y]; congr 1; exact Subsingleton.elim _ _⟩
  have hN := (idx t).2.2.2.2.2.2.2.2
  have he : ((View.whole main_v7).slice (win0_7.rect t)).emb (ix3 0 r j)
      = (ix3 ⟨t.val / 11, by omega⟩ r j : S32x2048x1024.Idx) := by
    blk_ext [idx t]
  rw [he]
  refine (last_point m c t h r j).trans ((total m c t h ⟨t.val / 11, by omega⟩ rfl r j).trans ?_)
  exact (Cert.FfnRefIdeal.Rows.result_apply _ _ _ _ _ _ _ r j).symm

end Cert.FfnIdeal.Block
-- ==== Proof.FfnClaim.lean ====
module

public import proofs.«01_k».proof.Defs
public import proofs.«01_k».proof.Proof.Gen.Ffn.Frame
public import proofs.«01_k».proof.Proof.FfnValue
public import Idealize.ShloMosaic.Lib.Quiescent

/-! The claims about the feed-forward call: the three frames, and the equality of the kernel's result with the reference's. -/

@[expose] public section

noncomputable section

open Idealize.ShloMosaic Idealize.ShloMosaic.TcCoe Idealize.SL.Sem

namespace Cert.FfnClaim

/-- The reference leaves its arguments as they were and every semaphore at zero. -/
theorem reference_frame : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems rfl r.2⟩)
    (Cert.FfnRefIdeal.Value.run (F := Ideal) m g)

/-- The kernel's result array and the reference's are the same reals on the same arguments. -/
theorem same_result : Cert.algebraic_FfnIdeal_FfnRefIdeal (hFfnIdeal := Cert.FfnIdeal.Gen.facts)
    (hFfnRefIdeal := Cert.FfnRefIdeal.Gen.facts) := fun m g m' g' _ h =>
  ⟨fun c => (Cert.FfnIdeal.Gen.dats m 0 c).arrAt 7 Cert.FfnIdeal.cfg0.N, Cert.FfnIdeal.Value.run_blocks (F := Ideal) m g,
    (θ_run Cert.FfnRefIdeal.defs _ _).mono (fun r hr c => by
      obtain ⟨h0, h1, h2, h3, h4, h5⟩ := h c
      refine ⟨(hr c).1.trans ?_, (hr c).2⟩
      rw [Cert.FfnRefIdeal.Read.val_main_v44_eq, h0, h1, h2, h3, h4, h5]
      exact (Cert.FfnIdeal.Block.final m c).symm)
      (Cert.FfnRefIdeal.Value.run (F := Ideal) m' g')⟩

end Cert.FfnClaim

end
-- ==== Proof.MergeSpec.lean ====
module

public import Idealize.ShloMosaic.Lib.Pointwise

@[expose] public section

noncomputable section

open Idealize.ShloMosaic

/-! The mathematics of the merge: one row of the residual stream and one row of its normalized form. -/

namespace Cert.MergeSpec

/-- Root-mean-square normalization of a row of 1024 entries, scaled by the gains `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- One branch at channel `j`: the sigmoid of the branch's gate on the normalized row, times the branch's projection. -/
def branch (h : Fin 1024 → EReal) (wg : Fin 1024 → Fin 1024 → EReal) (y : Fin 512 → EReal)
    (w : Fin 512 → Fin 1024 → EReal) (j : Fin 1024) : EReal :=
  Ideal.logistic (∑ k, h k * wg k j) * ∑ k, y k * w k j

/-- The residual row after the gated branches went through the out-projection. -/
def resid (x g1 : Fin 1024 → EReal) (wg0 wg1 wg2 : Fin 1024 → Fin 1024 → EReal) (yd yr ym : Fin 512 → EReal)
    (wd wr wm : Fin 512 → Fin 1024 → EReal) (wo : Fin 1024 → Fin 1024 → EReal) (j : Fin 1024) : EReal :=
  x j + ∑ k, (branch (rms x g1) wg0 yd wd k + branch (rms x g1) wg1 yr wr k + branch (rms x g1) wg2 ym wm k) * wo k j

end Cert.MergeSpec
-- ==== Proof.MergeKernel.lean ====
module

public import proofs.«01_k».proof.Proof.Gen.MergeIdeal.Value
public import proofs.«01_k».proof.Proof.MergeSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Block

open Cert.MergeIdeal Cert.MergeIdeal.Gen Cert.MergeSpec

variable (x0 : FVec Ideal S512x1024 .f32) (x1 : FVec Ideal S1x1024 .f32) (x2 : FVec Ideal S1024x3072 .bf16)
  (x3 x4 x5 : FVec Ideal S512x512 .bf16) (x6 x7 x8 : FVec Ideal S512x1024 .bf16)
  (x9 : FVec Ideal S1024x1024 .bf16) (x10 : FVec Ideal S1x1024 .f32)

/-- The normalized input row the body computes. -/
theorem norm_apply (r : Fin 512) (j : Fin 1024) :
    k0_pay4 (F := Ideal) x0 x1 (ix2 r j) = rms (fun k => x0 (ix2 r k)) (fun k => x1 (ix2 0 k)) j := by
  unfold rms
  pointwise [k0_pay4, k0_pay3]

/-- The residual row `r` of a block of 512 rows. -/
def residRow (r : Fin 512) : Fin 1024 → EReal :=
  resid (fun k => x0 (ix2 r k)) (fun k => x1 (ix2 0 k)) (fun k j => x2 (ix2 k ⟨j.val, by omega⟩))
    (fun k j => x2 (ix2 k ⟨1024 + j.val, by omega⟩)) (fun k j => x2 (ix2 k ⟨2048 + j.val, by omega⟩))
    (fun k => x3 (ix2 r k)) (fun k => x4 (ix2 r k)) (fun k => x5 (ix2 r k)) (fun k j => x6 (ix2 k j))
    (fun k j => x7 (ix2 k j)) (fun k j => x8 (ix2 k j)) (fun k j => x9 (ix2 k j))

/-- The first value the body stores: the row with the mixed branches added. -/
theorem resid_apply (r : Fin 512) (j : Fin 1024) :
    k0_pay1 (F := Ideal) (k0_pay8 x0 x1 x2 x3 x4 x5 x6 x7 x8 x9 x10) (k0_pay9 x0 x1 x2 x3 x4 x5 x6 x7 x8 x9 x10)
      (k0_pay10 x0 x1 x2 x3 x4 x5 x6 x7 x8 x9 x10) (k0_pay11 x0 x1 x2 x3 x4 x5 x6 x7 x8 x9 x10)
      (k0_pay12 x0 x1 x2 x3 x4 x5 x6 x7 x8 x9 x10) (View.ld x2 r0_5) x5 x8 x9 (ix2 r j)
      = residRow x0 x1 x2 x3 x4 x5 x6 x7 x8 x9 r j := by
  unfold residRow resid branch
  pointwise [k0_pay1, k0_pay8, k0_pay9, k0_pay10, k0_pay11, k0_pay12, k0_pay5, k0_pay6, k0_pay7, k0_pay3, r0_0, r0_1,
    r0_2, r0_3, r0_4, r0_5]
  simp only [norm_apply]
  pointwise

/-- The second value the body stores: the new row, normalized. -/
theorem second_apply (r : Fin 512) (j : Fin 1024) :
    k0_pay2 (F := Ideal) (k0_pay8 x0 x1 x2 x3 x4 x5 x6 x7 x8 x9 x10) (k0_pay9 x0 x1 x2 x3 x4 x5 x6 x7 x8 x9 x10)
      (k0_pay10 x0 x1 x2 x3 x4 x5 x6 x7 x8 x9 x10) (k0_pay11 x0 x1 x2 x3 x4 x5 x6 x7 x8 x9 x10)
      (k0_pay12 x0 x1 x2 x3 x4 x5 x6 x7 x8 x9 x10) (View.ld x2 r0_5) x5 x8 x9 x10 (ix2 r j)
      = rms (residRow x0 x1 x2 x3 x4 x5 x6 x7 x8 x9 r) (fun k => x10 (ix2 0 k)) j := by
  unfold rms
  simp only [← resid_apply x0 x1 x2 x3 x4 x5 x6 x7 x8 x9 x10]
  pointwise [k0_pay2]

end Cert.MergeIdeal.Block
-- ==== Proof.MergeReference.lean ====
module

public import proofs.«01_k».proof.Proof.Gen.MergeRefIdeal.Read
public import proofs.«01_k».proof.Proof.MergeSpec

@[expose] public section

set_option maxRecDepth 16384

noncomputable section

open Idealize.ShloMosaic Idealize.ShloMosaic.TcCoe

namespace Cert.MergeRefIdeal.Rows

open Cert.MergeRefIdeal Cert.MergeRefIdeal.Read Cert.MergeSpec

variable (x0 : FVec Ideal S32x2048x1024 .f32) (x1 : FVec Ideal S1x1024 .f32) (x2 : FVec Ideal S1024x3072 .f32)
  (x3 x4 x5 : FVec Ideal S32x2048x512 .bf16) (x6 x7 x8 : FVec Ideal S1x512x1024 .f32)
  (x9 : FVec Ideal S1x1024x1024 .f32) (x10 : FVec Ideal S1x1024 .f32)

/-- The reference's normalized input row. -/
theorem norm_apply (b : Fin 32) (s : Fin 2048) (j : Fin 1024) :
    val_main_v13 (F := Ideal) x0 x1 (ix3 b s j) = rms (fun k => x0 (ix3 b s k)) (fun k => x1 (ix2 0 k)) j := by
  unfold rms
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]

/-- The reference's gates. -/
theorem gate_apply (b : Fin 32) (s : Fin 2048) (j : Fin 3072) :
    val_main_v20 (F := Ideal) x0 x1 x2 (ix3 b s j) = Ideal.logistic (∑ k, val_main_v13 (F := Ideal) x0 x1 (ix3 b s k) * x2 (ix2 k j)) := by
  unfold Ideal.logistic
  pointwise [val_main_v20, val_main_v19, val_main_v18, val_main_v17, val_main_v16, val_main_v15, val_main_v14, val_main_cst_2, val_main_cst_3]

/-- The residual row `s` of example `b`, as the reference's arguments give it. -/
def residRow (b : Fin 32) (s : Fin 2048) : Fin 1024 → EReal :=
  resid (fun k => x0 (ix3 b s k)) (fun k => x1 (ix2 0 k)) (fun k j => x2 (ix2 k ⟨j.val, by omega⟩))
    (fun k j => x2 (ix2 k ⟨1024 + j.val, by omega⟩)) (fun k j => x2 (ix2 k ⟨2048 + j.val, by omega⟩))
    (fun k => x3 (ix3 b s k)) (fun k => x4 (ix3 b s k)) (fun k => x5 (ix3 b s k)) (fun k j => x6 (ix3 0 k j))
    (fun k j => x7 (ix3 0 k j)) (fun k j => x8 (ix3 0 k j)) (fun k j => x9 (ix3 0 k j))

/-- The reference's row with the mixed branches added. -/
theorem resid_apply (b : Fin 32) (s : Fin 2048) (j : Fin 1024) :
    val_main_v44 (F := Ideal) x0 x1 x2 x3 x4 x5 x6 x7 x8 x9 (ix3 b s j)
      = residRow x0 x1 x2 x3 x4 x5 x6 x7 x8 x9 b s j := by
  unfold residRow resid branch
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21]
  simp only [gate_apply, norm_apply]

/-- The reference's first result. -/
theorem first_apply (R : Fin 65536) (j : Fin 1024) :
    val_main_v45 (F := Ideal) x0 x1 x2 x3 x4 x5 x6 x7 x8 x9 (ix2 R j)
      = residRow x0 x1 x2 x3 x4 x5 x6 x7 x8 x9 ⟨R.val / 2048, by omega⟩ ⟨R.val % 2048, by omega⟩ j := by
  rw [← resid_apply]
  pointwise [val_main_v45]

/-- The reference's second result: the new row, normalized. -/
theorem second_apply (R : Fin 65536) (j : Fin 1024) :
    val_main_v61 (F := Ideal) x0 x1 x2 x3 x4 x5 x6 x7 x8 x9 x10 (ix2 R j)
      = rms (residRow x0 x1 x2 x3 x4 x5 x6 x7 x8 x9 ⟨R.val / 2048, by omega⟩ ⟨R.val % 2048, by omega⟩)
          (fun k => x10 (ix2 0 k)) j := by
  unfold rms
  simp only [← resid_apply]
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_cst_4, val_main_cst_5, val_main_cst_6]

end Cert.MergeRefIdeal.Rows
-- ==== Proof.MergeValue.lean ====
module

public import proofs.«01_k».proof.Proof.MergeKernel
public import proofs.«01_k».proof.Proof.MergeReference

@[expose] public section

set_option maxRecDepth 16384

noncomputable section

open Idealize.ShloMosaic Idealize.ShloMosaic.TcCoe Idealize.SL.Sem
open Idealize.ShloMosaic.Pipeline (Dat)

namespace Cert.MergeIdeal.Block

open Cert.MergeIdeal Cert.MergeIdeal.Gen Cert.MergeSpec

variable (m : (ℓ : Loc nD τ sig) → Buf (Elt Ideal) ℓ)

/-- Where the windows' blocks lie at grid point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![t.val, 0] ∧ win0_12.index t = ![t.val, 0] ∧ t.val < 128 :=
  (by decide +kernel : ∀ t : Fin grid0.N, _)

/-- The residual stream's block is 512 of its rows, the rows of all examples counted one after another. -/
theorem block_x (c : Dev nD) (t : Fin cfg0.N) (r : Fin 512) (k : Fin 1024) (ht : t.val * 512 + r.val < 65536) :
    (show FVec Ideal S512x1024 .f32 from iblk m c 0 t) (ix2 r k)
      = m ((c : Thread nD τ).loc main_arg0) (ix3 ⟨(t.val * 512 + r.val) / 2048, by omega⟩ ⟨(t.val * 512 + r.val) % 2048, by omega⟩ k) := by
  blk_ext! [iblk, V, idx t]

/-- The block of the dilated branch: the same rows of its output. -/
theorem block_dilated (c : Dev nD) (t : Fin cfg0.N) (r : Fin 512) (k : Fin 512) (ht : t.val * 512 + r.val < 65536) :
    (show FVec Ideal S512x512 .bf16 from iblk m c 3 t) (ix2 r k)
      = m ((c : Thread nD τ).loc main_arg3) (ix3 ⟨(t.val * 512 + r.val) / 2048, by omega⟩ ⟨(t.val * 512 + r.val) % 2048, by omega⟩ k) := by
  blk_ext! [iblk, V, idx t]

/-- The block of the retention branch: the same rows of its output. -/
theorem block_retention (c : Dev nD) (t : Fin cfg0.N) (r : Fin 512) (k : Fin 512) (ht : t.val * 512 + r.val < 65536) :
    (show FVec Ideal S512x512 .bf16 from iblk m c 4 t) (ix2 r k)
      = m ((c : Thread nD τ).loc main_arg4) (ix3 ⟨(t.val * 512 + r.val) / 2048, by omega⟩ ⟨(t.val * 512 + r.val) % 2048, by omega⟩ k) := by
  blk_ext! [iblk, V, idx t]

/-- The block of the memory branch: the same rows of its output. -/
theorem block_memory (c : Dev nD) (t : Fin cfg0.N) (r : Fin 512) (k : Fin 512) (ht : t.val * 512 + r.val < 65536) :
    (show FVec Ideal S512x512 .bf16 from iblk m c 5 t) (ix2 r k)
      = m ((c : Thread nD τ).loc main_arg5) (ix3 ⟨(t.val * 512 + r.val) / 2048, by omega⟩ ⟨(t.val * 512 + r.val) % 2048, by omega⟩ k) := by
  blk_ext! [iblk, V, idx t]

/-- The first norm's gains are loaded whole. -/
theorem block_g1 (c : Dev nD) (t : Fin cfg0.N) (k : Fin 1024) :
    (show FVec Ideal S1x1024 .f32 from iblk m c 1 t) (ix2 0 k) = m ((c : Thread nD τ).loc main_arg1) (ix2 0 k) := by
  blk_ext! [iblk, V, idx t]

/-- The second norm's gains are loaded whole. -/
theorem block_g2 (c : Dev nD) (t : Fin cfg0.N) (k : Fin 1024) :
    (show FVec Ideal S1x1024 .f32 from iblk m c 10 t) (ix2 0 k) = m ((c : Thread nD τ).loc main_arg10) (ix2 0 k) := by
  blk_ext! [iblk, V, idx t]

/-- The gates' weights are loaded whole. -/
theorem block_gate (c : Dev nD) (t : Fin cfg0.N) (k : Fin 1024) (j : Fin 3072) :
    (show FVec Ideal S1024x3072 .bf16 from iblk m c 2 t) (ix2 k j) = m ((c : Thread nD τ).loc main_arg2) (ix2 k j) := by
  blk_ext! [iblk, V, idx t]

/-- The weights of the dilated branch are loaded whole. -/
theorem block_wd (c : Dev nD) (t : Fin cfg0.N) (k : Fin 512) (j : Fin 1024) :
    (show FVec Ideal S512x1024 .bf16 from iblk m c 6 t) (ix2 k j) = m ((c : Thread nD τ).loc main_arg6) (ix3 0 k j) := by
  blk_ext! [iblk, V, idx t]

/-- The weights of the retention branch are loaded whole. -/
theorem block_wr (c : Dev nD) (t : Fin cfg0.N) (k : Fin 512) (j : Fin 1024) :
    (show FVec Ideal S512x1024 .bf16 from iblk m c 7 t) (ix2 k j) = m ((c : Thread nD τ).loc main_arg7) (ix3 0 k j) := by
  blk_ext! [iblk, V, idx t]

/-- The weights of the memory branch are loaded whole. -/
theorem block_wm (c : Dev nD) (t : Fin cfg0.N) (k : Fin 512) (j : Fin 1024) :
    (show FVec Ideal S512x1024 .bf16 from iblk m c 8 t) (ix2 k j) = m ((c : Thread nD τ).loc main_arg8) (ix3 0 k j) := by
  blk_ext! [iblk, V, idx t]

/-- The weights of the out-projection are loaded whole. -/
theorem block_wo (c : Dev nD) (t : Fin cfg0.N) (k : Fin 1024) (j : Fin 1024) :
    (show FVec Ideal S1024x1024 .bf16 from iblk m c 9 t) (ix2 k j) = m ((c : Thread nD τ).loc main_arg9) (ix3 0 k j) := by
  blk_ext! [iblk, V, idx t]

/-- The residual row of a block is the reference's row at the block's place in the array. -/
theorem residRow_eq (c : Dev nD) (t : Fin cfg0.N) (r : Fin 512) (ht : t.val * 512 + r.val < 65536) :
    residRow (iblk m c 0 t) (iblk m c 1 t) (iblk m c 2 t) (iblk m c 3 t) (iblk m c 4 t) (iblk m c 5 t) (iblk m c 6 t)
        (iblk m c 7 t) (iblk m c 8 t) (iblk m c 9 t) r
      = Cert.MergeRefIdeal.Rows.residRow (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9))
          ⟨(t.val * 512 + r.val) / 2048, by omega⟩ ⟨(t.val * 512 + r.val) % 2048, by omega⟩ := by
  unfold residRow Cert.MergeRefIdeal.Rows.residRow
  congr 1
  · exact funext fun k => block_x m c t r k ht
  · exact funext fun k => block_g1 m c t k
  · exact funext fun k => funext fun j => block_gate m c t k _
  · exact funext fun k => funext fun j => block_gate m c t k _
  · exact funext fun k => funext fun j => block_gate m c t k _
  · exact funext fun k => block_dilated m c t r k ht
  · exact funext fun k => block_retention m c t r k ht
  · exact funext fun k => block_memory m c t r k ht
  · exact funext fun k => funext fun j => block_wd m c t k j
  · exact funext fun k => funext fun j => block_wr m c t k j
  · exact funext fun k => funext fun j => block_wm m c t k j
  · exact funext fun k => funext fun j => block_wo m c t k j

/-- The first result after the run is the reference's first term. -/
theorem final_first (c : Dev nD) : (dats m 0 c).arrAt 11 (cfgs 0).N
    = Cert.MergeRefIdeal.Read.val_main_v45 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 11 _ (by decide +kernel) fun t _ y => ?_
  blk_simp
  rw [after0_11]; frame_out
  obtain ⟨r, j, rfl⟩ : ∃ (r : Fin 512) (j : Fin 1024), y = ix2 r j := ⟨y 0, y 1, eq_ix2 y⟩
  have hb := (idx t).2.2.2.2.2.2.2.2.2.2.2.2.2
  have he : ((View.whole main_v17_0).slice (win0_11.rect t)).emb (ix2 r j)
      = (ix2 ⟨t.val * 512 + r.val, by omega⟩ j : S65536x1024.Idx) := by
    blk_ext [idx t]
  rw [he]
  refine (resid_apply _ _ _ _ _ _ _ _ _ _ _ r j).trans ?_
  refine Eq.trans ?_ (Cert.MergeRefIdeal.Rows.first_apply _ _ _ _ _ _ _ _ _ _ _ j).symm
  exact congrFun (residRow_eq m c t r (by omega)) j

/-- The second result after the run is the reference's second term. -/
theorem final_second (c : Dev nD) : (dats m 0 c).arrAt 12 (cfgs 0).N
    = Cert.MergeRefIdeal.Read.val_main_v61 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; frame_out
  obtain ⟨r, j, rfl⟩ : ∃ (r : Fin 512) (j : Fin 1024), y = ix2 r j := ⟨y 0, y 1, eq_ix2 y⟩
  have hb := (idx t).2.2.2.2.2.2.2.2.2.2.2.2.2
  have he : ((View.whole main_v17_1).slice (win0_12.rect t)).emb (ix2 r j)
      = (ix2 ⟨t.val * 512 + r.val, by omega⟩ j : S65536x1024.Idx) := by
    blk_ext [idx t]
  rw [he]
  refine (second_apply _ _ _ _ _ _ _ _ _ _ _ r j).trans ?_
  refine Eq.trans ?_ (Cert.MergeRefIdeal.Rows.second_apply _ _ _ _ _ _ _ _ _ _ _ _ j).symm
  refine congrArg₂ (fun x g => rms x g j) (residRow_eq m c t r (by omega)) ?_
  exact funext fun k => block_g2 m c t k

end Cert.MergeIdeal.Block
-- ==== Proof.MergeClaim.lean ====
module

public import proofs.«01_k».proof.Defs
public import proofs.«01_k».proof.Proof.Gen.Merge.Frame
public import proofs.«01_k».proof.Proof.MergeValue
public import Idealize.ShloMosaic.Lib.Quiescent

/-! The claims about the merge call: the three frames, and the equality of the kernel's two results with the reference's. -/

@[expose] public section

noncomputable section

open Idealize.ShloMosaic Idealize.ShloMosaic.TcCoe Idealize.SL.Sem

namespace Cert.MergeClaim

/-- The reference leaves its arguments as they were and every semaphore at zero. -/
theorem reference_frame : Cert.quiescent_MergeRefIdeal (hMergeRefIdeal := Cert.MergeRefIdeal.Gen.facts) := fun m g _ =>
  (θ_run Cert.MergeRefIdeal.defs _ _).mono (fun r h => ⟨fun c => (h c).2.2, sem_eq_zero_of_no_sems rfl r.2⟩)
    (Cert.MergeRefIdeal.Value.run (F := Ideal) m g)

/-- The kernel's two result arrays and the reference's are the same reals on the same arguments. -/
theorem same_result : Cert.algebraic_MergeIdeal_MergeRefIdeal (hMergeIdeal := Cert.MergeIdeal.Gen.facts)
    (hMergeRefIdeal := Cert.MergeRefIdeal.Gen.facts) := fun m g m' g' _ h =>
  ⟨fun c => (Cert.MergeIdeal.Gen.dats m 0 c).arrAt 11 Cert.MergeIdeal.cfg0.N,
    fun c => (Cert.MergeIdeal.Gen.dats m 0 c).arrAt 12 Cert.MergeIdeal.cfg0.N, Cert.MergeIdeal.Value.run_blocks (F := Ideal) m g,
    (θ_run Cert.MergeRefIdeal.defs _ _).mono (fun r hr c => by
      obtain ⟨h0, h1, h2, h3, h4, h5, h6, h7, h8, h9, h10⟩ := h c
      refine ⟨(hr c).1.trans ?_, (hr c).2.1.trans ?_, (hr c).2.2⟩
      · rw [Cert.MergeRefIdeal.Read.val_main_v45_eq, h0, h1, h2, h3, h4, h5, h6, h7, h8, h9]
        exact (Cert.MergeIdeal.Block.final_first m c).symm
      · rw [Cert.MergeRefIdeal.Read.val_main_v61_eq, h0, h1, h2, h3, h4, h5, h6, h7, h8, h9, h10]
        exact (Cert.MergeIdeal.Block.final_second m c).symm)
      (Cert.MergeRefIdeal.Value.run (F := Ideal) m' g')⟩

end Cert.MergeClaim

end
-- ==== Proof.CrossSpec.lean ====
module

public import Idealize.ShloMosaic.Lib.Pointwise

/-! Attention over the memory rows: the normalized and projected memory, one row of softmax weights, and the two ways of
    dividing by their sum, which agree when the scores are real. -/

@[expose] public section

noncomputable section

open Idealize.ShloMosaic

namespace Cert.CrossSpec

/-- Root-mean-square normalization of a row of `n` entries, `D` the word of the number of entries, scaled by `g`. -/
def rms {n : Nat} (D : BitVec 32) (x g : Fin n → EReal) (j : Fin n) : EReal :=
  x j * Ideal.rsqrt (Ideal.div (∑ k, x k * x k) (Ideal.ofBits .f32 D) + Ideal.ofBits .f32 0x358637BD#32) * g j

/-- A memory row normalized and taken through the key and value projection. -/
def kv (x g : Fin 1024 → EReal) (w : Fin 1024 → Fin 1024 → EReal) (j : Fin 1024) : EReal :=
  ∑ k, rms 0x44800000#32 x g k * w k j

/-- The normalized key of head `h` from a projected row `y`. -/
def key (h : Fin 4) (y : Fin 1024 → EReal) (g : Fin 128 → EReal) (d : Fin 128) : EReal :=
  rms 0x43000000#32 (fun e => y ⟨h.val * 128 + e.val, by omega⟩) g d

/-- The value of head `h` from a projected row `y`. -/
def val (h : Fin 4) (y : Fin 1024 → EReal) (d : Fin 128) : EReal := y ⟨512 + h.val * 128 + d.val, by omega⟩

/-- The greatest of a row of scores. -/
def top (s : Fin 256 → EReal) : EReal := Finset.fold max (Ideal.ofBits .f32 0xFF800000#32) s Finset.univ

/-- The exponential of a score less the greatest. -/
def weight (s : Fin 256 → EReal) (m : Fin 256) : EReal := Ideal.exp (s m - top s)

/-- The weighted sum of the values, divided by the sum of the weights. -/
def attn (s v : Fin 256 → EReal) : EReal := Ideal.div (∑ m, weight s m * v m) (∑ m, weight s m)

/-- The values summed with the weights each divided by their sum. -/
def attnSoftmax (s v : Fin 256 → EReal) : EReal := ∑ m, v m * Ideal.div (weight s m) (∑ l, weight s l)

/-- A value that is neither infinity. -/
def IsReal (x : EReal) : Prop := ∃ r : ℝ, x = (r : EReal)

/-- A sum of two reals is real. -/
theorem IsReal.add {x y : EReal} : IsReal x → IsReal y → IsReal (x + y) := by
  rintro ⟨a, rfl⟩ ⟨b, rfl⟩; exact ⟨a + b, (EReal.coe_add a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- A sum of reals is real. -/
theorem IsReal.sum {n : Nat} {f : Fin n → EReal} (h : ∀ k, IsReal (f k)) : IsReal (∑ k, f k) :=
  Finset.sum_induction _ IsReal (fun _ _ => IsReal.add) ⟨0, rfl⟩ fun k _ => h k

/-- A sum of squares of reals is a real at least zero. -/
theorem squares {n : Nat} {x : Fin n → EReal} (h : ∀ k, IsReal (x k)) : ∃ r : ℝ, 0 ≤ r ∧ ∑ k, x k * x k = (r : EReal) := by
  refine Finset.sum_induction _ (fun y : EReal => ∃ r : ℝ, 0 ≤ r ∧ y = (r : EReal)) ?_ ⟨0, le_refl _, rfl⟩ fun k _ => ?_
  · rintro _ _ ⟨a, ha, rfl⟩ ⟨b, hb, rfl⟩
    exact ⟨a + b, add_nonneg ha hb, (EReal.coe_add a b).symm⟩
  · obtain ⟨a, ha⟩ := h k
    exact ⟨a * a, mul_self_nonneg a, by rw [ha, EReal.coe_mul]⟩

/-- The single-precision word of 1024. -/
theorem word_1024 : Ideal.ofBits .f32 0x44800000#32 = ((1024 : ℝ) : EReal) := by
  simp [Ideal.ofBits, Ideal.ieee]; norm_num; rw [← EReal.coe_mul]; norm_num

/-- The single-precision word of 128. -/
theorem word_128 : Ideal.ofBits .f32 0x43000000#32 = ((128 : ℝ) : EReal) := by
  simp [Ideal.ofBits, Ideal.ieee]; norm_num; rw [← EReal.coe_mul]; norm_num

/-- The single-precision word of the epsilon is a positive real. -/
theorem word_eps : ∃ e : ℝ, 0 < e ∧ Ideal.ofBits .f32 0x358637BD#32 = (e : EReal) := by
  refine ⟨8796093 / 8796093022208, by norm_num, ?_⟩
  simp [Ideal.ofBits, Ideal.ieee]; norm_num; rw [← EReal.coe_mul]; norm_num

/-- The single-precision word of minus infinity. -/
theorem word_bot : Ideal.ofBits .f32 0xFF800000#32 = (⊥ : EReal) := by
  simp [Ideal.ofBits, Ideal.ieee]

/-- Normalizing reals by a positive number of entries gives reals. -/
theorem rms_real {n : Nat} {D : BitVec 32} (hD : ∃ d : ℝ, 0 < d ∧ Ideal.ofBits .f32 D = (d : EReal)) {x g : Fin n → EReal}
    (hx : ∀ k, IsReal (x k)) (hg : ∀ k, IsReal (g k)) (j : Fin n) : IsReal (rms D x g j) := by
  obtain ⟨d, hd, hD⟩ := hD
  obtain ⟨e, he, hE⟩ := word_eps
  obtain ⟨s, hs, hS⟩ := squares hx
  have hp : 0 < s * (1 / d) + e := add_pos_of_nonneg_of_pos (mul_nonneg hs (by positivity)) he
  unfold rms
  refine ((hx j).mul ⟨(Real.sqrt (s * (1 / d) + e))⁻¹, ?_⟩).mul (hg j)
  rw [hD, hE, hS, Ideal.div_coe hd.ne', ← EReal.coe_mul, ← EReal.coe_add, Ideal.rsqrt_coe, if_neg hp.le.not_gt, if_neg hp.ne']

/-- The greatest score is one of the scores. -/
theorem top_mem (s : Fin 256 → EReal) : ∃ m, top s = s m := by
  obtain ⟨m, _, h⟩ := Finset.exists_mem_eq_sup (Finset.univ : Finset (Fin 256)) ⟨0, Finset.mem_univ _⟩ s
  exact ⟨m, by unfold top; rw [word_bot]; exact h⟩

/-- A product with a real at least zero distributes over a sum. -/
theorem sum_mul_real {n : Nat} (f : Fin n → EReal) {c : EReal} (h0 : 0 ≤ c) (ht : c ≠ ⊤) : (∑ m, f m) * c = ∑ m, f m * c := by
  refine Finset.induction_on (Finset.univ : Finset (Fin n)) (by simp) fun a t ha ih => ?_
  rw [Finset.sum_insert ha, Finset.sum_insert ha, EReal.right_distrib_of_nonneg_of_ne_top h0 ht, ih]

/-- The sum of the weights of real scores is a positive real. -/
theorem weights_pos {s : Fin 256 → EReal} (hs : ∀ m, IsReal (s m)) : ∃ d : ℝ, 0 < d ∧ ∑ m, weight s m = (d : EReal) := by
  obtain ⟨i, hi⟩ := top_mem s
  obtain ⟨t, ht⟩ := hs i
  refine Finset.sum_induction_nonempty _ (fun y : EReal => ∃ r : ℝ, 0 < r ∧ y = (r : EReal)) ?_ ⟨0, Finset.mem_univ _⟩ fun m _ => ?_
  · rintro _ _ ⟨a, ha, rfl⟩ ⟨b, hb, rfl⟩
    exact ⟨a + b, add_pos ha hb, (EReal.coe_add a b).symm⟩
  · obtain ⟨a, ha⟩ := hs m
    refine ⟨Real.exp (a - t), Real.exp_pos _, ?_⟩
    unfold weight
    rw [hi, ht, ha, ← EReal.coe_sub, Ideal.exp_coe]

/-- Dividing after the weighted sum is dividing every weight, on real scores. -/
theorem attn_eq {s : Fin 256 → EReal} (hs : ∀ m, IsReal (s m)) (v : Fin 256 → EReal) : attn s v = attnSoftmax s v := by
  obtain ⟨d, hd, h⟩ := weights_pos hs
  have hc : (0 : EReal) ≤ ((1 / d : ℝ) : EReal) := EReal.coe_nonneg.mpr (by positivity)
  unfold attn attnSoftmax
  rw [h, Ideal.div_coe hd.ne', sum_mul_real _ hc (EReal.coe_ne_top _)]
  refine Finset.sum_congr rfl fun m _ => ?_
  rw [Ideal.div_coe hd.ne', mul_comm (weight s m) (v m), mul_assoc]

/-- Keys of real rows are real. -/
theorem key_real {x g : Fin 1024 → EReal} {w : Fin 1024 → Fin 1024 → EReal} {g' : Fin 128 → EReal} (hx : ∀ k, IsReal (x k))
    (hg : ∀ k, IsReal (g k)) (hw : ∀ k (j : Fin 1024), j.val < 512 → IsReal (w k j)) (hg' : ∀ d, IsReal (g' d)) (h : Fin 4)
    (d : Fin 128) : IsReal (key h (kv x g w) g' d) :=
  rms_real ⟨128, by norm_num, word_128⟩
    (fun e => IsReal.sum fun k => (rms_real ⟨1024, by norm_num, word_1024⟩ hx hg k).mul (hw k _ (by show h.val * 128 + e.val < 512; omega)))
    hg' d

end Cert.CrossSpec
-- ==== Proof.CrossKernel.lean ====
module

public import proofs.«01_k».proof.Proof.Gen.CrossIdeal.Value
public import proofs.«01_k».proof.Proof.CrossSpec
public import Idealize.ShloMosaic.Lib.Pipeline.ValueKit

/-! What the memory attention kernel stores, read at an index: keys and values of a head, and a tile of the result. -/

@[expose] public section

set_option maxRecDepth 16384

noncomputable section

open Idealize.ShloMosaic Idealize.ShloMosaic.TcCoe Idealize.SL.Sem
open Idealize.ShloMosaic.Pipeline (Dat)

namespace Cert.CrossIdeal.Block

open Cert.CrossIdeal Cert.CrossIdeal.Gen Cert.CrossSpec

section Payloads

variable (q k v : FVec Ideal S1x256x128 .bf16) (r : Fin 256) (j : Fin 128)

/-- A tile of 256 query rows against the keys and values of a head, at row `r`, column `j`. -/
def tile : EReal := attn (fun m => ∑ d : Fin 128, q (ix3 0 r d) * k (ix3 0 m d)) (fun m => v (ix3 0 m j))

/-- What a trip stores for head 0 is the tile of its loads. -/
theorem head0_apply : k0_pay6 (F := Ideal) q k v (ix3 0 r j) = tile q k v r j := by
  unfold tile attn weight top
  pointwise [k0_pay6]

/-- What a trip stores for head 1 is the tile of its loads. -/
theorem head1_apply : k0_pay8 (F := Ideal) (k0_pay7 q k) v (ix3 0 r j) = tile q k v r j := by
  unfold tile attn weight top
  pointwise [k0_pay8, k0_pay7]

/-- What a trip stores for head 2 is the tile of its loads. -/
theorem head2_apply : k0_pay9 (F := Ideal) q k v (ix3 0 r j) = tile q k v r j := by
  unfold tile attn weight top
  pointwise [k0_pay9]

/-- What a trip stores for head 3 is the tile of its loads. -/
theorem head3_apply : k0_pay5 (F := Ideal) q k v (ix3 0 r j) = tile q k v r j := by
  unfold tile attn weight top
  pointwise [k0_pay5]

end Payloads

variable (x0 : FVec Ideal S1x256x1024 .f32) (x1 : FVec Ideal S1x1024 .f32) (x2 : FVec Ideal S1024x1024 .bf16)
  (x3 : FVec Ideal S1x128 .f32)

/-- Memory row `i` of a block, normalized and projected. -/
def row (i : Fin 256) : Fin 1024 → EReal := kv (fun k => x0 (ix3 0 i k)) (fun k => x1 (ix2 0 k)) (fun k j => x2 (ix2 k j))

/-- The projection the body computes is the memory row, normalized and projected. -/
theorem row_apply (i : Fin 256) (j : Fin 1024) : k0_pay10 (F := Ideal) x0 x1 x2 (ix2 i j) = row x0 x1 x2 i j := by
  unfold row kv rms
  pointwise [k0_pay10]

/-- The keys stored for head 0. -/
theorem key0_apply (i : Fin 256) (d : Fin 128) :
    k0_pay12 (F := Ideal) x0 x1 x2 x3 (ix3 0 i d) = key 0 (row x0 x1 x2 i) (fun e => x3 (ix2 0 e)) d := by
  unfold key rms
  simp only [← row_apply]
  pointwise [k0_pay12, k0_pay11]

/-- The keys stored for head 1. -/
theorem key1_apply (i : Fin 256) (d : Fin 128) :
    k0_pay14 (F := Ideal) (k0_pay10 x0 x1 x2) (k0_pay11 x3) (ix3 0 i d) = key 1 (row x0 x1 x2 i) (fun e => x3 (ix2 0 e)) d := by
  unfold key rms
  simp only [← row_apply]
  pointwise [k0_pay14, k0_pay11]

/-- The keys stored for head 2. -/
theorem key2_apply (i : Fin 256) (d : Fin 128) :
    k0_pay1 (F := Ideal) (k0_pay16 (k0_pay10 x0 x1 x2) (k0_pay11 x3)) (ix3 0 i d)
      = key 2 (row x0 x1 x2 i) (fun e => x3 (ix2 0 e)) d := by
  unfold key rms
  simp only [← row_apply]
  pointwise [k0_pay1, k0_pay16, k0_pay11]

/-- The keys stored for head 3. -/
theorem key3_apply (i : Fin 256) (d : Fin 128) :
    k0_pay3 (F := Ideal) (k0_pay10 x0 x1 x2) (k0_pay11 x3) (ix3 0 i d) = key 3 (row x0 x1 x2 i) (fun e => x3 (ix2 0 e)) d := by
  unfold key rms
  simp only [← row_apply]
  pointwise [k0_pay3, k0_pay11]

/-- The values stored for head 0. -/
theorem val0_apply (i : Fin 256) (d : Fin 128) :
    k0_pay13 (F := Ideal) (k0_pay10 x0 x1 x2) (ix3 0 i d) = val 0 (row x0 x1 x2 i) d := by
  unfold val
  simp only [← row_apply]
  pointwise [k0_pay13]

/-- The values stored for head 1. -/
theorem val1_apply (i : Fin 256) (d : Fin 128) :
    k0_pay15 (F := Ideal) (k0_pay10 x0 x1 x2) (ix3 0 i d) = val 1 (row x0 x1 x2 i) d := by
  unfold val
  simp only [← row_apply]
  pointwise [k0_pay15]

/-- The values stored for head 2. -/
theorem val2_apply (i : Fin 256) (d : Fin 128) :
    k0_pay2 (F := Ideal) (k0_pay10 x0 x1 x2) (ix3 0 i d) = val 2 (row x0 x1 x2 i) d := by
  unfold val
  simp only [← row_apply]
  pointwise [k0_pay2]

/-- The values stored for head 3. -/
theorem val3_apply (i : Fin 256) (d : Fin 128) :
    k0_pay4 (F := Ideal) (k0_pay10 x0 x1 x2) (ix3 0 i d) = val 3 (row x0 x1 x2 i) d := by
  unfold val
  simp only [← row_apply]
  pointwise [k0_pay4]

end Cert.CrossIdeal.Block

end
-- ==== Proof.CrossLoop.lean ====
module

public import proofs.«01_k».proof.Proof.CrossKernel

/-! The memory attention kernel's loop over tiles of 256 query rows: together its trips write every row of every head. -/

@[expose] public section

set_option maxRecDepth 16384

noncomputable section

open Idealize.ShloMosaic Idealize.ShloMosaic.TcCoe Idealize.SL.Sem
open Idealize.ShloMosaic.Pipeline (Dat)

namespace Cert.CrossIdeal.Block

open Cert.CrossIdeal Cert.CrossIdeal.Gen Cert.CrossSpec

section Tiles

variable (Q : FVec Ideal S1x2048x512 .bf16) (K V : FVec Ideal S4x256x128 .bf16) (r : Fin 2048) (j : Fin 512)

/-- The result at query row `r`, column `j`: the head of the column attends to its keys and values. -/
def want : EReal :=
  attn (fun m => ∑ d : Fin 128, Q (ix3 0 r ⟨j.val / 128 * 128 + d.val, by omega⟩) * K (ix3 ⟨j.val / 128, by omega⟩ m d))
    (fun m => V (ix3 ⟨j.val / 128, by omega⟩ m ⟨j.val % 128, by omega⟩))

/-- A tile computed from the loads of trip `k` and head `h` has, where it lies, the wanted values. -/
theorem tile_at (k : Nat) (h : Fin 4) (off offh : Fin 3 → Nat) (ho : off = ![0, 256 * k, 128 * h.val]) (hh : offh = ![h.val, 0, 0])
    (inb : ∀ a, off a + S1x256x128.size a ≤ S1x2048x512.size a) (inbh : ∀ a, offh a + S1x256x128.size a ≤ S4x256x128.size a)
    (w : FVec Ideal S1x256x128 .bf16)
    (hw : ∀ a b, w (ix3 0 a b) = tile (View.ld (Val := Elt Ideal) (e' := .bf16) Q (Rect.unit (s := S1x2048x512) off S1x256x128.size inb))
      (View.ld (Val := Elt Ideal) (e' := .bf16) K (Rect.unit (s := S4x256x128) offh S1x256x128.size inbh))
      (View.ld (Val := Elt Ideal) (e' := .bf16) V (Rect.unit (s := S4x256x128) offh S1x256x128.size inbh)) a b) :
    View.TileAt (Val := Elt Ideal) (S := S1x2048x512) (e := .bf16) (ix3 0 r j) off S1x256x128.size w (want Q K V r j) := by
  subst ho hh
  intro x hx
  obtain ⟨a, b, rfl⟩ : ∃ (a : Fin 256) (b : Fin 128), x = ix3 0 a b := ⟨x 1, x 2, by
    rw [eq_ix3 x]; congr 1; exact Subsingleton.elim _ _⟩
  have h1 : r.val = 256 * k + a.val := hx 1
  have h2 : j.val = 128 * h.val + b.val := hx 2
  have hb := b.isLt
  refine (hw a b).trans ?_
  unfold tile want
  congr 1
  · refine funext fun m => Finset.sum_congr rfl fun d _ => congrArg₂ (· * ·) ?_ ?_
    · refine View.ld_unit_apply_of (Val := Elt Ideal) (e := .bf16) Q _ _ inb (ix3 0 a d) _ fun ax => ?_
      fin_cases ax
      · rfl
      · exact h1
      · show j.val / 128 * 128 + d.val = 128 * h.val + d.val
        omega
    · refine View.ld_unit_apply_of (Val := Elt Ideal) (e := .bf16) K _ _ inbh (ix3 0 m d) _ fun ax => ?_
      fin_cases ax
      · show j.val / 128 = h.val + 0
        omega
      · show m.val = 0 + m.val
        omega
      · show d.val = 0 + d.val
        omega
  · refine funext fun m => View.ld_unit_apply_of (Val := Elt Ideal) (e := .bf16) V _ _ inbh (ix3 0 m b) _ fun ax => ?_
    fin_cases ax
    · show j.val / 128 = h.val + 0
      omega
    · show m.val = 0 + m.val
      omega
    · show j.val % 128 = 0 + b.val
      omega

/-- Row `r`, column `j` lies in the tile of its trip and head. -/
theorem mem_tile (k : Nat) (h : Fin 4) (off : Fin 3 → Nat) (ho : off = ![0, 256 * k, 128 * h.val])
    (inb : ∀ a, off a + S1x256x128.size a ≤ S1x2048x512.size a) (hr : r.val / 256 = k) (hj : j.val / 128 = h.val) :
    (ix3 0 r j : S1x2048x512.Idx) ∈ (Rect.unit (s := S1x2048x512) off S1x256x128.size inb).set := by
  subst ho
  refine Rect.mem_set_unit.mpr fun ax => ?_
  fin_cases ax
  · exact ⟨Nat.le_refl 0, Nat.zero_lt_one⟩
  · show 256 * k ≤ r.val ∧ r.val < 256 * k + 256
    omega
  · show 128 * h.val ≤ j.val ∧ j.val < 128 * h.val + 128
    omega

end Tiles

section Loop

variable (𝒱 : Variants) (c : Dev nD) (bd : Option 𝒱.V) (i : grid0.Coords) (arg1 : Memref sig .tc .vmem S1x256x1024 .f32)
  (harg1 : arg1.IsWhole) (arg2 : Memref sig .tc .vmem S1x1024 .f32) (harg2 : arg2.IsWhole)
  (arg3 : Memref sig .tc .vmem S1024x1024 .bf16) (harg3 : arg3.IsWhole) (arg4 : Memref sig .tc .vmem S1x128 .f32)
  (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S4x256x128 .bf16)
  (harg7 : arg7.IsWhole) (arg8 : Memref sig .tc .vmem S4x256x128 .bf16) (harg8 : arg8.IsWhole)
  (X5 : BufTy.Contents (Elt Ideal) arg5.view.ty) (X7 : BufTy.Contents (Elt Ideal) arg7.view.ty)
  (X8 : BufTy.Contents (Elt Ideal) arg8.view.ty)

/-- Every piece of a trip has the wanted values. -/
theorem trip_all (k : Fin k0_t1_loop.trips) (r : Fin 2048) (j : Fin 512) :
    View.AllAt (tripL_k0_t1 (F := Ideal) 𝒱 c bd i arg1 harg1 arg2 harg2 arg3 harg3 arg4 harg4 arg5 harg5 arg6 harg6 arg7 harg7 arg8 harg8 X5 X7 X8 k)
      (ix3 0 r j) (want (arg5.view.read (Elt Ideal) X5) (arg7.view.read (Elt Ideal) X7) (arg8.view.read (Elt Ideal) X8) r j) := by
  unfold tripL_k0_t1 trip_k0_t1
  dsimp only
  refine View.allAt_cons_unit _ _ _ _ _ (tile_at _ _ _ r j k.val 3 _ ![3, 0, 0] (k0_off4_eq k) rfl _ _ _ fun a b => head3_apply _ _ _ a b) ?_
  refine View.allAt_cons_unit _ _ _ _ _ (tile_at _ _ _ r j k.val 2 _ ![2, 0, 0] (k0_off3_eq k) rfl _ _ _ fun a b => head2_apply _ _ _ a b) ?_
  refine View.allAt_cons_unit _ _ _ _ _ (tile_at _ _ _ r j k.val 1 _ ![1, 0, 0] (k0_off2_eq k) rfl _ _ _ fun a b => head1_apply _ _ _ a b) ?_
  refine View.allAt_cons_unit _ _ _ _ _ (tile_at _ _ _ r j k.val 0 _ ![0, 0, 0] (k0_off1_eq k) rfl _ _ _ fun a b => head0_apply _ _ _ a b) ?_
  exact View.allAt_nil _ _

/-- The pieces of a trip cover its rows. -/
theorem trip_cover (k : Fin k0_t1_loop.trips) (r : Fin 2048) (j : Fin 512) (hr : r.val / 256 = k.val) :
    ∃ p ∈ tripL_k0_t1 (F := Ideal) 𝒱 c bd i arg1 harg1 arg2 harg2 arg3 harg3 arg4 harg4 arg5 harg5 arg6 harg6 arg7 harg7 arg8 harg8 X5 X7 X8 k,
      (ix3 0 r j : S1x2048x512.Idx) ∈ p.1.set := by
  unfold tripL_k0_t1 trip_k0_t1
  dsimp only
  have hj : j.val / 128 = 3 ∨ j.val / 128 = 2 ∨ j.val / 128 = 1 ∨ j.val / 128 = 0 := by omega
  rcases hj with h | h | h | h
  · exact ⟨_, List.mem_cons_self, mem_tile r j k.val 3 _ (k0_off4_eq k) (k0_off4_inb k) hr h⟩
  · exact ⟨_, List.mem_cons_of_mem _ List.mem_cons_self, mem_tile r j k.val 2 _ (k0_off3_eq k) (k0_off3_inb k) hr h⟩
  · exact ⟨_, List.mem_cons_of_mem _ (List.mem_cons_of_mem _ List.mem_cons_self), mem_tile r j k.val 1 _ (k0_off2_eq k) (k0_off2_inb k) hr h⟩
  · exact ⟨_, List.mem_cons_of_mem _ (List.mem_cons_of_mem _ (List.mem_cons_of_mem _ List.mem_cons_self)),
      mem_tile r j k.val 0 _ (k0_off1_eq k) (k0_off1_inb k) hr h⟩

/-- Every piece of the first `n` trips has the wanted values. -/
theorem loop_all (r : Fin 2048) (j : Fin 512) : ∀ n : Nat, n ≤ k0_t1_loop.trips →
    View.AllAt (pb_k0_t1 (F := Ideal) 𝒱 c bd i arg1 harg1 arg2 harg2 arg3 harg3 arg4 harg4 arg5 harg5 arg6 harg6 arg7 harg7 arg8 harg8 X5 X7 X8 n)
      (ix3 0 r j) (want (arg5.view.read (Elt Ideal) X5) (arg7.view.read (Elt Ideal) X7) (arg8.view.read (Elt Ideal) X8) r j)
  | 0, _ => View.allAt_nil _ _
  | n + 1, hn => by
    intro p hp
    rw [pb_k0_t1_succ 𝒱 c bd i arg1 harg1 arg2 harg2 arg3 harg3 arg4 harg4 arg5 harg5 arg6 harg6 arg7 harg7 arg8 harg8 X5 X7 X8 ⟨n, hn⟩] at hp
    rcases List.mem_append.mp hp with h | h
    · exact trip_all 𝒱 c bd i arg1 harg1 arg2 harg2 arg3 harg3 arg4 harg4 arg5 harg5 arg6 harg6 arg7 harg7 arg8 harg8 X5 X7 X8 ⟨n, hn⟩ r j p h
    · exact loop_all r j n (Nat.le_of_succ_le hn) p h

/-- A piece of one of the first `n` trips is among the pieces of the loop so far. -/
theorem loop_mem (k : Fin k0_t1_loop.trips) : ∀ n : Nat, n ≤ k0_t1_loop.trips → k.val < n →
    ∀ p ∈ tripL_k0_t1 (F := Ideal) 𝒱 c bd i arg1 harg1 arg2 harg2 arg3 harg3 arg4 harg4 arg5 harg5 arg6 harg6 arg7 harg7 arg8 harg8 X5 X7 X8 k,
      p ∈ pb_k0_t1 (F := Ideal) 𝒱 c bd i arg1 harg1 arg2 harg2 arg3 harg3 arg4 harg4 arg5 harg5 arg6 harg6 arg7 harg7 arg8 harg8 X5 X7 X8 n
  | 0, _, h => absurd h (Nat.not_lt_zero _)
  | n + 1, hn, h => by
    intro p hp
    rw [pb_k0_t1_succ 𝒱 c bd i arg1 harg1 arg2 harg2 arg3 harg3 arg4 harg4 arg5 harg5 arg6 harg6 arg7 harg7 arg8 harg8 X5 X7 X8 ⟨n, hn⟩]
    rcases Nat.lt_succ_iff_lt_or_eq.mp h with h | h
    · exact List.mem_append_right _ (loop_mem k n (Nat.le_of_succ_le hn) h p hp)
    · obtain rfl : k = ⟨n, hn⟩ := Fin.ext h
      exact List.mem_append_left _ hp

/-- The whole loop's pieces, read at row `r`, column `j`, are the wanted values. -/
theorem loop_apply (n : Nat) (hn : n = k0_t1_loop.trips) (r : Fin 2048) (j : Fin 512) :
    View.canon (pb_k0_t1 (F := Ideal) 𝒱 c bd i arg1 harg1 arg2 harg2 arg3 harg3 arg4 harg4 arg5 harg5 arg6 harg6 arg7 harg7 arg8 harg8 X5 X7 X8 n) (ix3 0 r j)
      = want (arg5.view.read (Elt Ideal) X5) (arg7.view.read (Elt Ideal) X7) (arg8.view.read (Elt Ideal) X8) r j := by
  have h8 : k0_t1_loop.trips = 8 := by decide +kernel
  have hk : r.val / 256 < k0_t1_loop.trips := by rw [h8]; omega
  obtain ⟨p, hp, hy⟩ := trip_cover 𝒱 c bd i arg1 harg1 arg2 harg2 arg3 harg3 arg4 harg4 arg5 harg5 arg6 harg6 arg7 harg7 arg8 harg8 X5 X7 X8 ⟨r.val / 256, hk⟩ r j rfl
  exact View.canon_eq_of_allAt _ _ _ ⟨p, loop_mem 𝒱 c bd i arg1 harg1 arg2 harg2 arg3 harg3 arg4 harg4 arg5 harg5 arg6 harg6 arg7 harg7 arg8 harg8 X5 X7 X8 ⟨r.val / 256, hk⟩ n hn.le (hn ▸ hk) p hp, hy⟩
    (loop_all 𝒱 c bd i arg1 harg1 arg2 harg2 arg3 harg3 arg4 harg4 arg5 harg5 arg6 harg6 arg7 harg7 arg8 harg8 X5 X7 X8 r j n hn.le)

end Loop

end Cert.CrossIdeal.Block

end
-- ==== Proof.CrossReference.lean ====
module

public import proofs.«01_k».proof.Proof.Gen.CrossRefIdeal.Read
public import proofs.«01_k».proof.Proof.CrossSpec

/-! The memory attention reference, read at an index. -/

@[expose] public section

set_option maxRecDepth 16384

noncomputable section

open Idealize.ShloMosaic

namespace Cert.CrossRefIdeal.Rows

open Cert.CrossRefIdeal Cert.CrossRefIdeal.Gen Cert.CrossRefIdeal.Read Cert.CrossSpec

variable (x0 : FVec Ideal S32x2048x7168 .bf16) (x1 : FVec Ideal S32x256x1024 .f32) (x2 : FVec Ideal S1x1024 .f32)
  (x3 : FVec Ideal S1x1024x1024 .f32) (x4 : FVec Ideal S1x128 .f32)

/-- Memory row `i` of example `b`, normalized and projected. -/
def row (b : Fin 32) (i : Fin 256) : Fin 1024 → EReal :=
  kv (fun k => x1 (ix3 b i k)) (fun k => x2 (ix2 0 k)) (fun k j => x3 (ix3 0 k j))

/-- The scores of row `s` of example `b` in head `h`. -/
def scores (b : Fin 32) (s : Fin 2048) (h : Fin 4) (m : Fin 256) : EReal :=
  ∑ d : Fin 128, x0 (ix3 b s ⟨6656 + (h.val * 128 + d.val), by omega⟩) * key h (row x1 x2 x3 b m) (fun e => x4 (ix2 0 e)) d

/-- The reference's projection of the normalized memory, at a row and column. -/
theorem row_apply (b : Fin 32) (i : Fin 256) (j : Fin 1024) :
    val_main_v18 (F := Ideal) x1 x2 x3 (ix3 b i j) = row x1 x2 x3 b i j := by
  unfold row kv rms
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_cst,
    val_main_cst_0, val_main_cst_1]

/-- The reference's keys, at a head. -/
theorem key_apply (b : Fin 32) (i : Fin 256) (h : Fin 4) (d : Fin 128) :
    val_main_v35 (F := Ideal) x1 x2 x3 x4 (ix4 b i h d) = key h (row x1 x2 x3 b i) (fun e => x4 (ix2 0 e)) d := by
  unfold key rms
  simp only [← row_apply]
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_cst_2, val_main_cst_3, val_main_cst_4]

/-- The reference's values, at a head. -/
theorem val_apply (b : Fin 32) (i : Fin 256) (h : Fin 4) (d : Fin 128) :
    val_main_v37 (F := Ideal) x1 x2 x3 (ix4 b i h d) = val h (row x1 x2 x3 b i) d := by
  unfold val
  simp only [← row_apply]
  pointwise [val_main_v37, val_main_v36, val_main_v19]

/-- The reference's scores. -/
theorem score_apply (b : Fin 32) (h : Fin 4) (s : Fin 2048) (m : Fin 256) :
    val_main_v38 (F := Ideal) x0 x1 x2 x3 x4 (ix4 b h s m) = scores x0 x1 x2 x3 x4 b s h m := by
  unfold scores
  simp only [← key_apply]
  pointwise [val_main_v38, val_main_v2, val_main_v1, val_main_v0]

/-- A maximum over the last of four axes is the fold of the maximum along it, whatever the sizes. -/
theorem max_last {n0 n1 n2 n3 : Nat} (x : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (i0 : Fin n0) (i1 : Fin n1) (i2 : Fin n2) :
    Host.reduce FloatOps.maximumf x c h hu (ix3 i0 i1 i2)
      = Finset.univ.fold max (c (Shape.Idx.first hu) : EReal) fun k : Fin n3 => (x (ix4 i0 i1 i2 k) : EReal) := by
  pointwise

/-- The maximum over a row of scores. -/
theorem greatest_apply (b : Fin 32) (h : Fin 4) (s : Fin 2048) :
    val_main_v39 (F := Ideal) x0 x1 x2 x3 x4 (ix3 b h s) = top (scores x0 x1 x2 x3 x4 b s h) := by
  unfold val_main_v39
  refine (max_last _ _ _ _ _ _ _).trans ?_
  unfold top
  simp only [score_apply]
  rfl

/-- The greater of minus infinity and an entry is the entry. -/
theorem max_bot (y : FVec Ideal S32x4x2048 .f32) (b : Fin 32) (h : Fin 4) (s : Fin 2048) :
    maximumf (F := Ideal) (val_main_v40 (F := Ideal)) y (ix3 b h s) = y (ix3 b h s) := by
  have e : max (Ideal.ofBits .f32 0xFF800000#32) (y (ix3 b h s) : EReal) = y (ix3 b h s) := by
    rw [word_bot]; exact max_eq_right bot_le
  refine Eq.trans ?_ e
  pointwise [val_main_v40, val_main_cst_6]

/-- The value a row of scores is shifted by. -/
theorem top_apply (b : Fin 32) (h : Fin 4) (s : Fin 2048) :
    val_main_v41 (F := Ideal) x0 x1 x2 x3 x4 (ix3 b h s) = top (scores x0 x1 x2 x3 x4 b s h) := by
  unfold val_main_v41
  exact (max_bot _ b h s).trans (greatest_apply x0 x1 x2 x3 x4 b h s)

/-- The exponential of a shifted score. -/
theorem weight_apply (b : Fin 32) (h : Fin 4) (s : Fin 2048) (m : Fin 256) :
    val_main_v45 (F := Ideal) x0 x1 x2 x3 x4 (ix4 b h s m) = weight (scores x0 x1 x2 x3 x4 b s h) m := by
  unfold weight
  rw [← top_apply, ← score_apply]
  pointwise [val_main_v45, val_main_v44, val_main_v43, val_main_v42]

/-- The softmax of a row of scores. -/
theorem softmax_apply (b : Fin 32) (h : Fin 4) (s : Fin 2048) (m : Fin 256) :
    val_main_v49 (F := Ideal) x0 x1 x2 x3 x4 (ix4 b h s m)
      = Ideal.div (weight (scores x0 x1 x2 x3 x4 b s h) m) (∑ l, weight (scores x0 x1 x2 x3 x4 b s h) l) := by
  simp only [← weight_apply]
  pointwise [val_main_v49, val_main_v48, val_main_v47, val_main_v46, val_main_cst_7]

/-- The reference's result: the values weighted by the softmax of the scores. -/
theorem result_apply (b : Fin 32) (s : Fin 2048) (j : Fin 512) :
    val_main_v53 (F := Ideal) x0 x1 x2 x3 x4 (ix3 b s j)
      = attnSoftmax (scores x0 x1 x2 x3 x4 b s ⟨j.val / 128, by omega⟩)
          (fun m => val ⟨j.val / 128, by omega⟩ (row x1 x2 x3 b m) ⟨j.val % 128, by omega⟩) := by
  unfold attnSoftmax
  simp only [← softmax_apply, ← val_apply]
  pointwise [val_main_v53, val_main_v52, val_main_v51, val_main_v50]

end Cert.CrossRefIdeal.Rows

end
-- ==== Proof.CrossValue.lean ====
module

public import proofs.«01_k».proof.Proof.CrossLoop
public import proofs.«01_k».proof.Proof.CrossReference
public import Idealize.ShloMosaic.Lib.Pipeline.ReadBack

/-! The memory attention kernel's result array is the reference's term of the same arguments, when the scores are real. -/

@[expose] public section

set_option maxRecDepth 16384

noncomputable section

open Idealize.ShloMosaic Idealize.ShloMosaic.TcCoe Idealize.SL.Sem
open Idealize.ShloMosaic.Pipeline (Dat)

namespace Cert.CrossIdeal.Block

open Cert.CrossIdeal Cert.CrossIdeal.Gen Cert.CrossSpec

/-- A head stored whole, at an index of the four heads' array. -/
theorem head_at (h : Fin 4) (w : FVec Ideal S1x256x128 .bf16) (f : Fin 4 → Fin 256 → Fin 128 → EReal)
    (hw : ∀ i d, w (ix3 0 i d) = f h i d) (g : Fin 4) (i : Fin 256) (d : Fin 128) :
    View.TileAt (Val := Elt Ideal) (S := S4x256x128) (e := .bf16) (ix3 g i d) ![h.val, 0, 0] S1x256x128.size w (f g i d) := by
  intro x hx
  obtain ⟨a, b, rfl⟩ : ∃ (a : Fin 256) (b : Fin 128), x = ix3 0 a b := ⟨x 1, x 2, by
    rw [eq_ix3 x]; congr 1; exact Subsingleton.elim _ _⟩
  have h0 : g.val = h.val + 0 := hx 0
  have h1 : i.val = 0 + a.val := hx 1
  have h2 : d.val = 0 + b.val := hx 2
  obtain rfl : g = h := Fin.ext h0
  obtain rfl : i = a := Fin.ext (by omega)
  obtain rfl : d = b := Fin.ext (by omega)
  exact hw i d

/-- Four heads stored one after the other, read back. -/
theorem heads_apply (w0 w1 w2 w3 : FVec Ideal S1x256x128 .bf16) (f : Fin 4 → Fin 256 → Fin 128 → EReal)
    (h0 : ∀ i d, w0 (ix3 0 i d) = f 0 i d) (h1 : ∀ i d, w1 (ix3 0 i d) = f 1 i d) (h2 : ∀ i d, w2 (ix3 0 i d) = f 2 i d)
    (h3 : ∀ i d, w3 (ix3 0 i d) = f 3 i d) (b0 b1 b2 b3) (g : Fin 4) (i : Fin 256) (d : Fin 128) :
    View.canon (Val := Elt Ideal) (s := S4x256x128) (e := .bf16)
      [⟨Rect.unit ![3, 0, 0] ![1, 256, 128] b3, w3⟩, ⟨Rect.unit ![2, 0, 0] ![1, 256, 128] b2, w2⟩,
        ⟨Rect.unit ![1, 0, 0] ![1, 256, 128] b1, w1⟩, ⟨Rect.unit ![0, 0, 0] ![1, 256, 128] b0, w0⟩] (ix3 g i d) = f g i d := by
  have hm : ∀ (h : Fin 4) (inb), g = h → (ix3 g i d : S4x256x128.Idx)
      ∈ (Rect.unit (s := S4x256x128) ![h.val, 0, 0] ![1, 256, 128] inb).set := fun h inb e => by
    subst e
    refine Rect.mem_set_unit.mpr fun ax => ?_
    fin_cases ax
    · exact ⟨Nat.le_refl _, Nat.lt_succ_self _⟩
    · exact ⟨Nat.zero_le _, (Nat.zero_add 256).symm ▸ i.isLt⟩
    · exact ⟨Nat.zero_le _, (Nat.zero_add 128).symm ▸ d.isLt⟩
  have hg : g = 3 ∨ g = 2 ∨ g = 1 ∨ g = 0 := by omega
  refine View.canon_eq_of_allAt _ _ _ ?_ ?_
  · rcases hg with h | h | h | h
    · exact ⟨_, List.mem_cons_self, hm 3 b3 h⟩
    · exact ⟨_, List.mem_cons_of_mem _ List.mem_cons_self, hm 2 b2 h⟩
    · exact ⟨_, List.mem_cons_of_mem _ (List.mem_cons_of_mem _ List.mem_cons_self), hm 1 b1 h⟩
    · exact ⟨_, List.mem_cons_of_mem _ (List.mem_cons_of_mem _ (List.mem_cons_of_mem _ List.mem_cons_self)), hm 0 b0 h⟩
  refine View.allAt_cons_unit _ _ _ _ _ (head_at 3 w3 f h3 g i d) ?_
  refine View.allAt_cons_unit _ _ _ _ _ (head_at 2 w2 f h2 g i d) ?_
  refine View.allAt_cons_unit _ _ _ _ _ (head_at 1 w1 f h1 g i d) ?_
  refine View.allAt_cons_unit _ _ _ _ _ (head_at 0 w0 f h0 g i d) ?_
  exact View.allAt_nil _ _

variable (m : (ℓ : Loc nD τ sig) → Buf (Elt Ideal) ℓ)

/-- Which block each window takes at a grid point: the example's, and the whole of the shared arrays. -/
theorem idx : ∀ t : Fin cfg0.N, win0_0.index t = ![t.val, 0, 0] ∧ win0_1.index t = ![0, 0]
    ∧ win0_2.index t = ![0, 0] ∧ win0_3.index t = ![0, 0] ∧ win0_4.index t = ![t.val, 0, 13]
    ∧ win0_5.index t = ![t.val, 0, 0] ∧ t.val < 32 := (by decide +kernel : ∀ t : Fin grid0.N, _)

/-- The projected memory row `i` of the example of point `t`. -/
def blockRow (c : Dev nD) (t : Fin cfg0.N) (i : Fin 256) : Fin 1024 → EReal :=
  row (iblk m c 0 t) (iblk m c 1 t) (iblk m c 2 t) i

/-- The scores of query row `r` of the example of point `t` in head `h`. -/
def blockScores (c : Dev nD) (t : Fin cfg0.N) (r : Fin 2048) (h : Fin 4) (i : Fin 256) : EReal :=
  ∑ d : Fin 128, (show FVec Ideal S1x2048x512 .bf16 from iblk m c 4 t) (ix3 0 r ⟨h.val * 128 + d.val, by omega⟩)
    * key h (blockRow m c t i) (fun e => (show FVec Ideal S1x128 .f32 from iblk m c 3 t) (ix2 0 e)) d

/-- What a grid point leaves in the result's block. -/
theorem point (c : Dev nD) (t : Fin cfg0.N) (r : Fin 2048) (j : Fin 512) :
    outsAt0 m c t (ix3 0 r j) = attn (blockScores m c t r ⟨j.val / 128, by omega⟩)
      (fun i => val ⟨j.val / 128, by omega⟩ (blockRow m c t i) ⟨j.val % 128, by omega⟩) := by
  unfold outsAt0
  frame_out
  refine (loop_apply _ _ _ _ _ _ _ _ _ _ _ _ _ _ _ _ _ _ _ _ _ _ _ _ (by decide +kernel) r j).trans ?_
  rw [(hs0_4 t).read_unread]
  show want _ ((View.whole cc0_scratch0).read (Elt Ideal) _) ((View.whole cc0_scratch1).read (Elt Ideal) _) r j = _
  rw [View.read_writes_junk_eq_canon, View.read_writes_junk_eq_canon]
  unfold want blockScores blockRow
  refine congrArg₂ attn ?_ ?_
  · refine funext fun i => Finset.sum_congr rfl fun d _ => congrArg₂ (· * ·) rfl ?_
    exact heads_apply _ _ _ _ (fun h i d => key h (row (iblk m c 0 t) (iblk m c 1 t) (iblk m c 2 t) i)
      (fun e => (show FVec Ideal S1x128 .f32 from iblk m c 3 t) (ix2 0 e)) d)
      (key0_apply _ _ _ _) (key1_apply _ _ _ _) (key2_apply _ _ _ _) (key3_apply _ _ _ _) _ _ _ _ _ _ _
  · refine funext fun i => ?_
    exact heads_apply _ _ _ _ (fun h i d => val h (row (iblk m c 0 t) (iblk m c 1 t) (iblk m c 2 t) i) d)
      (val0_apply _ _ _) (val1_apply _ _ _) (val2_apply _ _ _) (val3_apply _ _ _) _ _ _ _ _ _ _

/-- A point's block of the memory is the example's rows. -/
theorem block_memory (c : Dev nD) (t : Fin cfg0.N) (b : Fin 32) (hb : t.val = b.val) (i : Fin 256) (k : Fin 1024) :
    (show FVec Ideal S1x256x1024 .f32 from iblk m c 0 t) (ix3 0 i k) = m ((c : Thread nD τ).loc main_arg1) (ix3 b i k) := by
  blk_ext! [iblk, V, idx t, hb]

/-- A point's block of the memory's gain is the whole gain. -/
theorem block_gain (c : Dev nD) (t : Fin cfg0.N) (k : Fin 1024) :
    (show FVec Ideal S1x1024 .f32 from iblk m c 1 t) (ix2 0 k) = m ((c : Thread nD τ).loc main_arg2) (ix2 0 k) := by
  blk_ext! [iblk, V, idx t]

/-- A point's block of the projection is the whole projection. -/
theorem block_weights (c : Dev nD) (t : Fin cfg0.N) (k j : Fin 1024) :
    (show FVec Ideal S1024x1024 .bf16 from iblk m c 2 t) (ix2 k j) = m ((c : Thread nD τ).loc main_arg3) (ix3 0 k j) := by
  blk_ext! [iblk, V, idx t]

/-- A point's block of the keys' gain is the whole gain. -/
theorem block_keygain (c : Dev nD) (t : Fin cfg0.N) (d : Fin 128) :
    (show FVec Ideal S1x128 .f32 from iblk m c 3 t) (ix2 0 d) = m ((c : Thread nD τ).loc main_arg4) (ix2 0 d) := by
  blk_ext! [iblk, V, idx t]

/-- A point's block of the projected input is the example's queries, the last 512 columns. -/
theorem block_query (c : Dev nD) (t : Fin cfg0.N) (b : Fin 32) (hb : t.val = b.val) (r : Fin 2048) (j : Fin 512) :
    (show FVec Ideal S1x2048x512 .bf16 from iblk m c 4 t) (ix3 0 r j)
      = m ((c : Thread nD τ).loc main_arg0) (ix3 b r ⟨6656 + j.val, by omega⟩) := by
  blk_ext! [iblk, V, idx t, hb]

/-- The block's projected rows are the reference's. -/
theorem row_eq (c : Dev nD) (t : Fin cfg0.N) (b : Fin 32) (hb : t.val = b.val) (i : Fin 256) :
    blockRow m c t i = Cert.CrossRefIdeal.Rows.row (m ((c : Thread nD τ).loc main_arg1)) (m ((c : Thread nD τ).loc main_arg2))
      (m ((c : Thread nD τ).loc main_arg3)) b i := by
  unfold blockRow row Cert.CrossRefIdeal.Rows.row
  congr 1
  · exact funext fun k => block_memory m c t b hb i k
  · exact funext fun k => block_gain m c t k
  · exact funext fun k => funext fun j => block_weights m c t k j

/-- The block's scores are the reference's. -/
theorem scores_eq (c : Dev nD) (t : Fin cfg0.N) (b : Fin 32) (hb : t.val = b.val) (r : Fin 2048) (h : Fin 4) :
    blockScores m c t r h = Cert.CrossRefIdeal.Rows.scores (m ((c : Thread nD τ).loc main_arg0)) (m ((c : Thread nD τ).loc main_arg1))
      (m ((c : Thread nD τ).loc main_arg2)) (m ((c : Thread nD τ).loc main_arg3)) (m ((c : Thread nD τ).loc main_arg4)) b r h := by
  unfold blockScores Cert.CrossRefIdeal.Rows.scores
  refine funext fun i => Finset.sum_congr rfl fun d _ => congrArg₂ (· * ·) (block_query m c t b hb r _) ?_
  rw [row_eq m c t b hb i]
  congr 1
  exact funext fun e => block_keygain m c t e

/-- The result array after the run is the reference's term, when every score is real. -/
theorem final (c : Dev nD)
    (hs : ∀ b r h i, IsReal (Cert.CrossRefIdeal.Rows.scores (m ((c : Thread nD τ).loc main_arg0)) (m ((c : Thread nD τ).loc main_arg1))
      (m ((c : Thread nD τ).loc main_arg2)) (m ((c : Thread nD τ).loc main_arg3)) (m ((c : Thread nD τ).loc main_arg4)) b r h i)) :
    (dats m 0 c).arrAt 5 (cfgs 0).N
      = Cert.CrossRefIdeal.Read.val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, j, rfl⟩ : ∃ (r : Fin 2048) (j : Fin 512), y = ix3 0 r j := ⟨y 1, y 2, by
    rw [eq_ix3 y]; congr 1; exact Subsingleton.elim _ _⟩
  have hN := (idx t).2.2.2.2.2.2
  have he : ((View.whole main_v6).slice (win0_5.rect t)).emb (ix3 0 r j) = (ix3 ⟨t.val, hN⟩ r j : S32x2048x512.Idx) := by
    blk_ext [idx t]
  rw [he]
  refine (point m c t r j).trans ?_
  rw [scores_eq m c t ⟨t.val, hN⟩ rfl]
  simp only [row_eq m c t ⟨t.val, hN⟩ rfl]
  rw [attn_eq (hs _ _ _)]
  exact (Cert.CrossRefIdeal.Rows.result_apply _ _ _ _ _ _ r j).symm

end Cert.CrossIdeal.Block

end
-- ==== Proof.CrossClaim.lean ====
module

public import proofs.«01_k».proof.Defs
public import proofs.«01_k».proof.Proof.Gen.Cross.Frame
public import proofs.«01_k».proof.Proof.CrossValue
public import Idealize.ShloMosaic.Lib.Quiescent
public import Idealize.ShloMosaic.Lib.ReduceAll
public import Idealize.ShloMosaic.Lib.Affine

/-! The claims about the memory attention: the frames, and the equality of the kernel's result with the reference's on
    finite inputs. -/

@[expose] public section

set_option maxRecDepth 16384

noncomputable section

open Idealize.ShloMosaic Idealize.ShloMosaic.TcCoe Idealize.SL.Sem

namespace Cert.CrossClaim

open Cert.CrossSpec

/-- A value whose magnitude compares below infinity is real. -/
theorem real_of_below (x : Ideal .f32)
    (h : FloatOps.cmpf .olt (FloatOps.hostAbsf x) (FloatOps.ofBits (F := Ideal) .f32 0x7F800000#32) = 1#1) : IsReal x := by
  have ht : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [ht] at h'
  unfold Ideal.cmp at h'
  have hx : max (x : EReal) (-(x : EReal)) < ⊤ := by
    by_contra hn
    simp [hn] at h'
  rw [max_lt_iff] at hx
  have h1 : (x : EReal) ≠ ⊤ := hx.1.ne
  have h2 : (x : EReal) ≠ ⊥ := fun e => by
    have := hx.2
    rw [e] at this
    simp at this
  exact ⟨(x : EReal).toReal, (EReal.coe_toReal h1 h2).symm⟩

/-- An array whose every magnitude compares below infinity is real throughout. -/
theorem real_of_all {s t u : Shape} {axes : List (Fin s.rank)} [Subsingleton t.Idx] (x : FVec Ideal s .f32) (y : FVec Ideal s .f32)
    (hy : ∀ i, y i = FloatOps.ofBits (F := Ideal) .f32 0x7F800000#32) (init : IVec u 1) (h : s.ReducesTo axes t)
    (hu : 0 < u.numel) (j : t.Idx) (e : Host.reduce IntOp.andi (cmpf .olt (Host.absf x) y) init h hu j = 1#1) (i : s.Idx) :
    IsReal (x i) := by
  refine real_of_below (x i) ?_
  rw [← hy i]
  exact Host.reduce_andi_all _ init h hu j e i

/-- The shape relations of the precondition's operations. -/
theorem pre_facts : Cert.Pre_finite_scores_inputs.Facts where
  slices_S32x2048x7168_S32x2048x512_0_0_6656 := by decide
  bitsLt_bf16_f32 := by decide
  bcast_S_S32x2048x512 := by decide
  reducesTo_S32x2048x512_S_d0_1_2 := by decide
  h_S_ := by decide
  bcast_S_S32x256x1024 := by decide
  reducesTo_S32x256x1024_S_d0_1_2 := by decide
  bcast_S_S1x1024 := by decide
  reducesTo_S1x1024_S_d0_1 := by decide
  slices_S1x1024x1024_S1x1024x512_0_0_0 := by decide
  bcast_S_S1x1024x512 := by decide
  reducesTo_S1x1024x512_S_d0_1_2 := by decide
  bcast_S_S1x128 := by decide
  reducesTo_S1x128_S_d0_1 := by decide

attribute [local instance] pre_facts

open Cert.Pre_finite_scores_inputs in
/-- The precondition makes real: the query slice, the memory, its gain, the key half of the weights, and the keys' gain. -/
theorem real_of_pre (x0 : FVec Ideal S32x2048x7168 .bf16) (x1 : FVec Ideal S32x256x1024 .f32) (x2 : FVec Ideal S1x1024 .f32)
    (x3 : FVec Ideal S1x1024x1024 .f32) (x4 : FVec Ideal S1x128 .f32) (h : fn x0 x1 x2 x3 x4 = fun _ => 1#1) :
    (∀ i, IsReal (extractStridedSlice S32x2048x512 ![0, 0, 6656] x0 Facts.slices_S32x2048x7168_S32x2048x512_0_0_6656 i))
      ∧ (∀ i, IsReal (x1 i)) ∧ (∀ i, IsReal (x2 i))
      ∧ (∀ i, IsReal (extractStridedSlice S1x1024x512 ![0, 0, 0] x3 Facts.slices_S1x1024x1024_S1x1024x512_0_0_0 i)) ∧ ∀ i, IsReal (x4 i) := by
  haveI : Subsingleton S_.Idx := ⟨fun a b => funext fun k => k.elim0⟩
  have h' := congrFun h (fun k : Fin 0 => k.elim0)
  obtain ⟨h4, e4⟩ := IntOp.andi_eq_one.mp h'
  obtain ⟨h3, e3⟩ := IntOp.andi_eq_one.mp h4
  obtain ⟨h2, e2⟩ := IntOp.andi_eq_one.mp h3
  obtain ⟨e0, e1⟩ := IntOp.andi_eq_one.mp h2
  exact ⟨real_of_all _ _ (fun _ => rfl) _ _ _ _ e0, real_of_all _ _ (fun _ => rfl) _ _ _ _ e1, real_of_all _ _ (fun _ => rfl) _ _ _ _ e2,
    real_of_all _ _ (fun _ => rfl) _ _ _ _ e3, real_of_all _ _ (fun _ => rfl) _ _ _ _ e4⟩

open Cert.Pre_finite_scores_inputs in
/-- Under the precondition every score is real. -/
theorem scores_real (x0 : FVec Ideal S32x2048x7168 .bf16) (x1 : FVec Ideal S32x256x1024 .f32) (x2 : FVec Ideal S1x1024 .f32)
    (x3 : FVec Ideal S1x1024x1024 .f32) (x4 : FVec Ideal S1x128 .f32) (h : fn x0 x1 x2 x3 x4 = fun _ => 1#1) (b : Fin 32) (s : Fin 2048)
    (n : Fin 4) (i : Fin 256) : IsReal (Cert.CrossRefIdeal.Rows.scores x0 x1 x2 x3 x4 b s n i) := by
  obtain ⟨h0, h1, h2, h3, h4⟩ := real_of_pre x0 x1 x2 x3 x4 h
  refine IsReal.sum fun d => IsReal.mul ?_ (key_real (fun k => h1 _) (fun k => h2 _) (fun k j hj => ?_) (fun e => h4 _) _ _)
  · have hq := h0 (ix3 b s ⟨n.val * 128 + d.val, by omega⟩)
    have e : extractStridedSlice S32x2048x512 ![0, 0, 6656] x0 Facts.slices_S32x2048x7168_S32x2048x512_0_0_6656
        (ix3 b s ⟨n.val * 128 + d.val, by omega⟩) = x0 (ix3 b s ⟨6656 + (n.val * 128 + d.val), by omega⟩) := by
      unfold extractStridedSlice
      refine congrArg x0 (funext fun a => ?_)
      fin_cases a <;> apply Fin.ext <;> simp <;> omega
    rwa [e] at hq
  · have hq := h3 (ix3 0 k ⟨j.val, hj⟩)
    have e : extractStridedSlice S1x1024x512 ![0, 0, 0] x3 Facts.slices_S1x1024x1024_S1x1024x512_0_0_0 (ix3 0 k ⟨j.val, hj⟩)
        = x3 (ix3 0 k j) := by
      unfold extractStridedSlice
      refine congrArg x3 (funext fun a => ?_)
      fin_cases a <;> apply Fin.ext <;> simp
    rwa [e] at hq

/-- The reference leaves its arguments as they were and every semaphore at zero. -/
theorem reference_frame : Cert.quiescent_CrossRefIdeal (hCrossRefIdeal := Cert.CrossRefIdeal.Gen.facts) := fun m g _ =>
  (θ_run Cert.CrossRefIdeal.defs _ _).mono (fun r h => ⟨fun c => (h c).2, sem_eq_zero_of_no_sems rfl r.2⟩)
    (Cert.CrossRefIdeal.Value.run (F := Ideal) m g)

/-- The kernel's result array and the reference's are the same reals on the same arguments, where the arguments that enter the scores
    are finite. -/
theorem same_result : Cert.algebraic_CrossIdeal_CrossRefIdeal_pre_finite_scores_inputs (hCrossIdeal := Cert.CrossIdeal.Gen.facts)
    (hCrossRefIdeal := Cert.CrossRefIdeal.Gen.facts) (hPre_finite_scores_inputs := pre_facts) := fun m g m' g' hp h =>
  ⟨fun c => (Cert.CrossIdeal.Gen.dats m 0 c).arrAt 5 Cert.CrossIdeal.cfg0.N, Cert.CrossIdeal.Value.run_blocks (F := Ideal) m g,
    (θ_run Cert.CrossRefIdeal.defs _ _).mono (fun r hr c => by
      obtain ⟨h0, h1, h2, h3, h4⟩ := h c
      refine ⟨(hr c).1.trans ?_, (hr c).2⟩
      rw [Cert.CrossRefIdeal.Read.val_main_v53_eq, h0, h1, h2, h3, h4]
      exact (Cert.CrossIdeal.Block.final m c (scores_real _ _ _ _ _ (hp c))).symm)
      (Cert.CrossRefIdeal.Value.run (F := Ideal) m' g')⟩

end Cert.CrossClaim

end
-- ==== Proof.lean ====
module

public import proofs.«01_k».proof.Defs
public import proofs.«01_k».proof.Proof.FfnClaim
public import proofs.«01_k».proof.Proof.MergeClaim
public import proofs.«01_k».proof.Proof.Gen.Cross.Frame
public import proofs.«01_k».proof.Proof.CrossClaim

@[expose] public section

noncomputable section

namespace Cert.Proof

open Idealize.ShloMosaic Idealize.SL.Sem

/-- Every claim of the certificate. -/
theorem claim : Cert.Claim :=
  ⟨Cert.Ffn.Gen.facts, Cert.FfnIdeal.Gen.facts, Cert.FfnRefIdeal.Gen.facts, Cert.Merge.Gen.facts, Cert.MergeIdeal.Gen.facts,
    Cert.MergeRefIdeal.Gen.facts, Cert.Cross.Gen.facts, Cert.CrossIdeal.Gen.facts, Cert.CrossRefIdeal.Gen.facts, Cert.CrossClaim.pre_facts,
    fun m g _ => Cert.Ffn.Gen.frame (F := Bits) m g, fun m g _ => Cert.FfnIdeal.Gen.frame (F := Ideal) m g, Cert.FfnClaim.reference_frame,
    fun m g _ => Cert.Merge.Gen.frame (F := Bits) m g, fun m g _ => Cert.MergeIdeal.Gen.frame (F := Ideal) m g,
    Cert.MergeClaim.reference_frame,
    fun m g _ => Cert.Cross.Gen.frame (F := Bits) m g, fun m g _ => Cert.CrossIdeal.Gen.frame (F := Ideal) m g,
    fun m g _ => Cert.CrossIdeal.Gen.frame (F := Ideal) m g, Cert.CrossClaim.reference_frame,
    fun m g _ => Cert.CrossClaim.reference_frame m g trivial,
    trivial, Cert.FfnClaim.same_result, trivial, Cert.MergeClaim.same_result,
    trivial, Cert.CrossClaim.same_result⟩

end Cert.Proof

end
